-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![32, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 1024]⟩ ⟨2, ![2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x512 : Shape := ⟨2, ![2048, 512]⟩
abbrev S512x32 : Shape := ⟨2, ![512, 32]⟩
abbrev S2048x2 : Shape := ⟨2, ![2048, 2]⟩
abbrev S8x512x1024 : Shape := ⟨3, ![8, 512, 1024]⟩
abbrev S_ : Shape := ⟨0, ![]⟩
abbrev S2048x1 : Shape := ⟨2, ![2048, 1]⟩
abbrev S2048 : Shape := ⟨1, ![2048]⟩

class Facts : Prop where
  bcast_S_S2048x2 : S_.BroadcastsInDim S2048x2 (![] : Fin 0 → Fin S2048x2.rank)
  slices_S2048x2_S2048x1_0_0 : S2048x2.Slices ![0, 0] S2048x1
  shapeCasts_S2048x1_S2048 : S2048x1.ShapeCasts S2048
  slices_S2048x2_S2048x1_0_1 : S2048x2.Slices ![0, 1] S2048x1
  bcast_S_S2048x512 : S_.BroadcastsInDim S2048x512 (![] : Fin 0 → Fin S2048x512.rank)
  bcast_S_S512x32 : S_.BroadcastsInDim S512x32 (![] : Fin 0 → Fin S512x32.rank)

variable [Facts]

def fn_part1 {F : FTy → Type} [FloatOps F] (main_arg1 : FVec F S512x32 .bf16) (main_v4 : IVec S2048x2 1) (main_v9 : IVec S2048 1) (main_v14 : IVec S2048x512 1) (main_v16 : IVec S512x32 1) (main_v17 : FVec F S512x32 .bf16) : IVec S2048x2 1 × IVec S2048 1 × IVec S2048x512 1 × IVec S512x32 1 :=
  let main_v18 : IVec S512x32 1 := cmpf .olt main_arg1 main_v17
  let main_v19 : IVec S512x32 1 := andi main_v16 main_v18
  (main_v4, main_v9, main_v14, main_v19)

def fn {F : FTy → Type} [FloatOps F] (main_arg0 : FVec F S2048x512 .bf16) (main_arg1 : FVec F S512x32 .bf16) (main_arg2 : IVec S2048x2 32) (main_arg3 : FVec F S8x512x1024 .bf16) : IVec S2048x2 1 × IVec S2048 1 × IVec S2048x512 1 × IVec S512x32 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 32#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_v5 : IVec S2048x1 32 := (extractStridedSlice S2048x1 ![0, 0] · slices_S2048x2_S2048x1_0_0) main_arg2
  let main_v6 : IVec S2048 32 := shapeCast S2048 main_v5 shapeCasts_S2048x1_S2048
  let main_v7 : IVec S2048x1 32 := (extractStridedSlice S2048x1 ![0, 1] · slices_S2048x2_S2048x1_0_1) main_arg2
  let main_v8 : IVec S2048 32 := shapeCast S2048 main_v7 shapeCasts_S2048x1_S2048
  let main_v9 : IVec S2048 1 := cmpi .ne main_v6 main_v8
  let main_cst : FVec F S_ .bf16 := constant S_ .bf16 0xFF80#16
  let main_v10 : FVec F S2048x512 .bf16 := broadcastInDim S2048x512 ![] bcast_S_S2048x512 main_cst
  let main_v11 : IVec S2048x512 1 := cmpf .ogt main_arg0 main_v10
  let main_cst_1 : FVec F S_ .bf16 := constant S_ .bf16 0x7F80#16
  let main_v12 : FVec F S2048x512 .bf16 := broadcastInDim S2048x512 ![] bcast_S_S2048x512 main_cst_1
  let main_v13 : IVec S2048x512 1 := cmpf .olt main_arg0 main_v12
  let main_v14 : IVec S2048x512 1 := andi main_v11 main_v13
  let main_cst_2 : FVec F S_ .bf16 := constant S_ .bf16 0xFF80#16
  let main_v15 : FVec F S512x32 .bf16 := broadcastInDim S512x32 ![] bcast_S_S512x32 main_cst_2
  let main_v16 : IVec S512x32 1 := cmpf .ogt main_arg1 main_v15
  let main_cst_3 : FVec F S_ .bf16 := constant S_ .bf16 0x7F80#16
  let main_v17 : FVec F S512x32 .bf16 := broadcastInDim S512x32 ![] bcast_S_S512x32 main_cst_3
  fn_part1 (F := F) main_arg1 main_v4 main_v9 main_v14 main_v16 main_v17
-- ==== Pre_routed_ReferenceIdeal.lean ====
abbrev S2048x512 : Shape := ⟨2, ![2048, 512]⟩
abbrev S512x32 : Shape := ⟨2, ![512, 32]⟩
abbrev S2048x2 : Shape := ⟨2, ![2048, 2]⟩
abbrev S32x512x1024 : Shape := ⟨3, ![32, 512, 1024]⟩
abbrev S_ : Shape := ⟨0, ![]⟩
abbrev S2048x1 : Shape := ⟨2, ![2048, 1]⟩
abbrev S2048 : Shape := ⟨1, ![2048]⟩

class Facts : Prop where
  bcast_S_S2048x2 : S_.BroadcastsInDim S2048x2 (![] : Fin 0 → Fin S2048x2.rank)
  slices_S2048x2_S2048x1_0_0 : S2048x2.Slices ![0, 0] S2048x1
  shapeCasts_S2048x1_S2048 : S2048x1.ShapeCasts S2048
  slices_S2048x2_S2048x1_0_1 : S2048x2.Slices ![0, 1] S2048x1
  bcast_S_S2048x512 : S_.BroadcastsInDim S2048x512 (![] : Fin 0 → Fin S2048x512.rank)
  bcast_S_S512x32 : S_.BroadcastsInDim S512x32 (![] : Fin 0 → Fin S512x32.rank)

variable [Facts]

def fn_part1 {F : FTy → Type} [FloatOps F] (main_arg1 : FVec F S512x32 .bf16) (main_v4 : IVec S2048x2 1) (main_v9 : IVec S2048 1) (main_v14 : IVec S2048x512 1) (main_v16 : IVec S512x32 1) (main_v17 : FVec F S512x32 .bf16) : IVec S2048x2 1 × IVec S2048 1 × IVec S2048x512 1 × IVec S512x32 1 :=
  let main_v18 : IVec S512x32 1 := cmpf .olt main_arg1 main_v17
  let main_v19 : IVec S512x32 1 := andi main_v16 main_v18
  (main_v4, main_v9, main_v14, main_v19)

def fn {F : FTy → Type} [FloatOps F] (main_arg0 : FVec F S2048x512 .bf16) (main_arg1 : FVec F S512x32 .bf16) (main_arg2 : IVec S2048x2 32) (main_arg3 : FVec F S32x512x1024 .bf16) : IVec S2048x2 1 × IVec S2048 1 × IVec S2048x512 1 × IVec S512x32 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 32#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_v5 : IVec S2048x1 32 := (extractStridedSlice S2048x1 ![0, 0] · slices_S2048x2_S2048x1_0_0) main_arg2
  let main_v6 : IVec S2048 32 := shapeCast S2048 main_v5 shapeCasts_S2048x1_S2048
  let main_v7 : IVec S2048x1 32 := (extractStridedSlice S2048x1 ![0, 1] · slices_S2048x2_S2048x1_0_1) main_arg2
  let main_v8 : IVec S2048 32 := shapeCast S2048 main_v7 shapeCasts_S2048x1_S2048
  let main_v9 : IVec S2048 1 := cmpi .ne main_v6 main_v8
  let main_cst : FVec F S_ .bf16 := constant S_ .bf16 0xFF80#16
  let main_v10 : FVec F S2048x512 .bf16 := broadcastInDim S2048x512 ![] bcast_S_S2048x512 main_cst
  let main_v11 : IVec S2048x512 1 := cmpf .ogt main_arg0 main_v10
  let main_cst_1 : FVec F S_ .bf16 := constant S_ .bf16 0x7F80#16
  let main_v12 : FVec F S2048x512 .bf16 := broadcastInDim S2048x512 ![] bcast_S_S2048x512 main_cst_1
  let main_v13 : IVec S2048x512 1 := cmpf .olt main_arg0 main_v12
  let main_v14 : IVec S2048x512 1 := andi main_v11 main_v13
  let main_cst_2 : FVec F S_ .bf16 := constant S_ .bf16 0xFF80#16
  let main_v15 : FVec F S512x32 .bf16 := broadcastInDim S512x32 ![] bcast_S_S512x32 main_cst_2
  let main_v16 : IVec S512x32 1 := cmpf .ogt main_arg1 main_v15
  let main_cst_3 : FVec F S_ .bf16 := constant S_ .bf16 0x7F80#16
  let main_v17 : FVec F S512x32 .bf16 := broadcastInDim S512x32 ![] bcast_S_S512x32 main_cst_3
  fn_part1 (F := F) main_arg1 main_v4 main_v9 main_v14 main_v16 main_v17
-- ==== Kernel.lean ====
abbrev S2048x512 : Shape := ⟨2, ![2048, 512]⟩
abbrev S512x32 : Shape := ⟨2, ![512, 32]⟩
abbrev S2048x2 : Shape := ⟨2, ![2048, 2]⟩
abbrev S8x512x1024 : Shape := ⟨3, ![8, 512, 1024]⟩
abbrev S512x1024 : Shape := ⟨2, ![512, 1024]⟩
abbrev S2048x32 : Shape := ⟨2, ![2048, 32]⟩
abbrev S4x512x1024 : Shape := ⟨3, ![4, 512, 1024]⟩
abbrev S3 : Shape := ⟨1, ![3]⟩
abbrev S_ : Shape := ⟨0, ![]⟩
abbrev S2048 : Shape := ⟨1, ![2048]⟩
abbrev S2048x1 : Shape := ⟨2, ![2048, 1]⟩
abbrev S1x512x1024 : Shape := ⟨3, ![1, 512, 1024]⟩
abbrev S512x512 : Shape := ⟨2, ![512, 512]⟩
abbrev S512 : Shape := ⟨1, ![512]⟩
abbrev S512x1 : Shape := ⟨2, ![512, 1]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x2, .i32⟩
  | .hbm, ⟨3, _⟩ => ⟨S8x512x1024, .bf16⟩
  | .hbm, ⟨4, _⟩ => ⟨S512x1024, .f32⟩
  | .local _ .vmem, ⟨0, _⟩ => ⟨S2048x512, .bf16⟩
  | .local _ .vmem, ⟨1, _⟩ => ⟨S512x32, .bf16⟩
  | .local _ .vmem, ⟨2, _⟩ => ⟨S2048x2, .i32⟩
  | .local _ .vmem, ⟨3, _⟩ => ⟨S8x512x1024, .bf16⟩
  | .local _ .vmem, ⟨4, _⟩ => ⟨S512x1024, .f32⟩
  | .local _ .vmem, ⟨5, _⟩ => ⟨S8x512x1024, .bf16⟩
  | .local _ .vmem, ⟨6, _⟩ => ⟨S2048x32, .f32⟩
  | .local _ .vmem, ⟨7, _⟩ => ⟨S2048x512, .bf16⟩
  | .local _ .vmem, ⟨8, _⟩ => ⟨S4x512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_69 : BitVec 32 := 1#32
  let v97 : BitVec 32 := Scalar.subi v2 c1_i32_69
  let c4_i32_70 : BitVec 32 := 4#32
  let v98 : BitVec 32 := Scalar.addi v97 c4_i32_70
  let c4_i32_71 : BitVec 32 := 4#32
  let v99 : BitVec 32 := Scalar.remsi v98 c4_i32_71
  let c512_i32 : BitVec 32 := 512#32
  let v100 : BitVec 32 := Scalar.muli v99 c512_i32
  let v101 : Index := Scalar.indexCast v100
  let c0_72 : Index := 0#32
  ![v101.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_69 : BitVec 32 := 1#32
  let v97 : BitVec 32 := Scalar.subi v2 c1_i32_69
  let c4_i32_70 : BitVec 32 := 4#32
  let v98 : BitVec 32 := Scalar.addi v97 c4_i32_70
  let c4_i32_71 : BitVec 32 := 4#32
  let v99 : BitVec 32 := Scalar.remsi v98 c4_i32_71
  let c512_i32 : BitVec 32 := 512#32
  let v100 : BitVec 32 := Scalar.muli v99 c512_i32
  let v103 : Index := Scalar.indexCast v100
  let c0_73 : Index := 0#32
  ![v103.toNat, 0]
def k0_dev3 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_141 : BitVec 32 := 1#32
  let v222 : BitVec 32 := Scalar.muli v7 c1_i32_141
  let v223 : BitVec 32 := Scalar.addi c0_i32_142 v222
  v223.toNat
def k0_off3 (d0 : Dev nD) (c0_i32_148 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_147 : BitVec 32 := 2#32
  let v232 : BitVec 32 := Scalar.subi v2 c2_i32_147
  let v233 : BitVec 32 := Scalar.subi v232 c0_i32_148
  let c8_i32_149 : BitVec 32 := 8#32
  let v234 : BitVec 32 := Scalar.addi v233 c8_i32_149
  let c4_i32_150 : BitVec 32 := 4#32
  let v235 : BitVec 32 := Scalar.remsi v234 c4_i32_150
  let c512_i32_151 : BitVec 32 := 512#32
  let v236 : BitVec 32 := Scalar.muli v235 c512_i32_151
  let v237 : Index := Scalar.indexCast v236
  let c0_152 : Index := 0#32
  ![v237.toNat, 0]
def k0_off4 (d0 : Dev nD) (c0_i32_148 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_147 : BitVec 32 := 2#32
  let v232 : BitVec 32 := Scalar.subi v2 c2_i32_147
  let v233 : BitVec 32 := Scalar.subi v232 c0_i32_148
  let c8_i32_149 : BitVec 32 := 8#32
  let v234 : BitVec 32 := Scalar.addi v233 c8_i32_149
  let c4_i32_150 : BitVec 32 := 4#32
  let v235 : BitVec 32 := Scalar.remsi v234 c4_i32_150
  let c512_i32_151 : BitVec 32 := 512#32
  let v236 : BitVec 32 := Scalar.muli v235 c512_i32_151
  let v239 : Index := Scalar.indexCast v236
  let c0_153 : Index := 0#32
  ![v239.toNat, 0]
def k0_dev4 (d0 : Dev nD) : Nat :=
  let c0_i32_240 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_239 : BitVec 32 := 1#32
  let v370 : BitVec 32 := Scalar.muli v7 c1_i32_239
  let v371 : BitVec 32 := Scalar.addi c0_i32_240 v370
  v371.toNat
def k0_dev5 (d0 : Dev nD) : Nat :=
  let c0_i32_338 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_337 : BitVec 32 := 1#32
  let v518 : BitVec 32 := Scalar.muli v7 c1_i32_337
  let v519 : BitVec 32 := Scalar.addi c0_i32_338 v518
  v519.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x32 : Shape := ⟨2, ![512, 32]⟩
abbrev S2048x2 : Shape := ⟨2, ![2048, 2]⟩
abbrev S32x512x1024 : Shape := ⟨3, ![32, 512, 1024]⟩
abbrev S2048x32 : Shape := ⟨2, ![2048, 32]⟩
abbrev S_ : Shape := ⟨0, ![]⟩
abbrev S2048 : Shape := ⟨1, ![2048]⟩
abbrev S2048x1 : Shape := ⟨2, ![2048, 1]⟩
abbrev S2048x512x1024 : Shape := ⟨3, ![2048, 512, 1024]⟩
abbrev S2048x1024 : Shape := ⟨2, ![2048, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x2, .i32⟩
  | .hbm, ⟨3, _⟩ => ⟨S32x512x1024, .bf16⟩
  | .hbm, ⟨4, _⟩ => ⟨S2048x512, .f32⟩
  | .hbm, ⟨5, _⟩ => ⟨S512x32, .f32⟩
  | .hbm, ⟨6, _⟩ => ⟨S32x512x1024, .f32⟩
  | .hbm, ⟨7, _⟩ => ⟨S2048x32, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S2048x32, .f32⟩
  | .hbm, ⟨12, _⟩ => ⟨S2048x32, .f32⟩
  | .hbm, ⟨13, _⟩ => ⟨S2048x32, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x32, .f32⟩
  | .hbm, ⟨18, _⟩ => ⟨S2048x32, .f32⟩
  | .hbm, ⟨19, _⟩ => ⟨S2048, .i32⟩
  | .hbm, ⟨20, _⟩ => ⟨S2048x1, .i32⟩
  | .hbm, ⟨21, _⟩ => ⟨S2048, .i32⟩
  | .hbm, ⟨22, _⟩ => ⟨S2048x1, .i32⟩
  | .hbm, ⟨23, _⟩ => ⟨S2048, .i32⟩
  | .hbm, ⟨24, _⟩ => ⟨S2048x1, .i32⟩
  | .hbm, ⟨25, _⟩ => ⟨S2048x1, .i32⟩
  | .hbm, ⟨26, _⟩ => ⟨S2048x2, .i32⟩
  | .hbm, ⟨27, _⟩ => ⟨S2048, .f32⟩
  | .hbm, ⟨28, _⟩ => ⟨S2048x1, .f32⟩
  | .hbm, ⟨29, _⟩ => ⟨S2048x1, .i32⟩
  | .hbm, ⟨30, _⟩ => ⟨S2048x1, .i32⟩
  | .hbm, ⟨31, _⟩ => ⟨S2048x2, .i32⟩
  | .hbm, ⟨32, _⟩ => ⟨S2048, .f32⟩
  | .hbm, ⟨33, _⟩ => ⟨S2048x1, .f32⟩
  | .hbm, ⟨34, _⟩ => ⟨S2048x1, .f32⟩
  | .hbm, ⟨35, _⟩ => ⟨S2048x1, .i32⟩
  | .hbm, ⟨36, _⟩ => ⟨S2048x512x1024, .f32⟩
  | .hbm, ⟨37, _⟩ => ⟨S2048x1, .i32⟩
  | .hbm, ⟨38, _⟩ => ⟨S2048x512x1024, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S2048x1024, .f32⟩
  | .hbm, ⟨46, _⟩ => ⟨S2048x1024, .f32⟩
  | .hbm, ⟨47, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩

abbrev nD : Nat := 1
abbrev τ : Topo := Topo.v7x

variable {F : FTy → Type} [FloatOps F]
-- ==== Proof.Slots.lean ====
/-
The exchange buffer of the expert-parallel kernel and its four slots.

Every device keeps a buffer of four slots `[512, 1024]`. Slot 3 holds the first partial product it sends; slots 0, 1
and 2 are where its left neighbour's three transfers land. The buffer is never held whole while the ring runs: this
module states what holding ONE slot at given contents means (`slotPts`), reads and writes a slot, and cuts the buffer
into its slots and joins it again. The buffer of the device's eight expert matrices, filled one matrix at a time, is
treated by the same rectangles (`fillTo`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.KernelIdeal.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange protocol's ghost state, its duties named by `Bool`, beside the staging copies' own. -/
abbrev UB : Type := URounds (GSem nD τ sig) Bool
abbrev UU : Type := UR sig nD τ × UB

local notation "𝕄" => MT nD τ sig Unit (Elt F) ℕ UU ℕ

/-- No loop variants: the kernel has no loop. -/
abbrev 𝒱₀ : Variants := Variants.none

/-! ## One slot of the exchange buffer -/

abbrev commM : Memref sig .tc .vmem S4x512x1024 .bf16 := Memref.whole cc0_scratch3
abbrev expM : Memref sig .tc .vmem S8x512x1024 .bf16 := Memref.whole cc0_scratch0

section Slot
variable (o : Fin 3 → ℕ) (ho : ∀ a, o a + S1x512x1024.size a ≤ S4x512x1024.size a)

/-- The rectangle of the slot at offset `o`. -/
abbrev slotR : Rect S4x512x1024 := Rect.unit (s := S4x512x1024) o S1x512x1024.size ho

/-- The slot as the transfers name it: the slice of the buffer, its unit axis dropped. -/
abbrev slotM : Memref sig .tc .vmem S512x1024 .bf16 :=
  (commM.slice (slotR o ho) (fun _ => rfl)).squeeze S512x1024 squeezes_S1x512x1024_S512x1024

omit [FloatOps F] in
/-- The elements under the slot are those of its rectangle. -/
theorem slotM_set : (slotM o ho).view.set = (slotR o ho).set := by
  show ((commM.slice (slotR o ho) (fun _ => rfl)).view.reshape S512x1024 _).set = _
  rw [View.set_reshape]
  exact View.set_slice_whole cc0_scratch3 (slotR o ho)

/-- Device `c` holds its slot at offset `o`, and a load of the slot reads `X`. -/
def slotPts (c : Dev nD) (X : Vec F S1x512x1024 .bf16) : sProp 𝕄 :=
  iprop(∃ f : Buf (Elt F) ((slotM o ho).view.loc (c : Thread nD τ)),
    ⌜commM.view.readAt (Elt F) (slotR o ho).toLoadRect f = X⌝
      ∗ (slotM o ho).view.loc (c : Thread nD τ) ↦[(slotM o ho).view.set]{fullShare} f)

omit [FloatOps F] in
instance slotPts_storable (c : Dev nD) (X : Vec F S1x512x1024 .bf16) :
    BI.Storable (upEmb : UEmb _ 𝕄) (slotPts o ho c X) := by unfold slotPts; infer_instance

/-- A load of a held slot reads its contents. -/
theorem slot_load (c : Dev nD) (X : Vec F S1x512x1024 .bf16) {α : Type} {Q : α → sProp 𝕄}
    {hl : commM.view.LoadsAt (slotR o ho).toLoadRect} {k : Vec F S1x512x1024 .bf16 → Prog (TpuEff nD τ sig (Elt F) Λ₀ .tc) α} :
    slotPts o ho c X
      ⊢ iprop((slotPts o ho c X -∗ wp frame (wpE (defs₀ (F := F)) 𝒱₀ (c : Thread nD τ) none) Set.univ (k X) Q)
          -∗ wp frame (wpE (defs₀ (F := F)) 𝒱₀ (c : Thread nD τ) none) Set.univ
              (.op (.load commM (slotR o ho).toLoadRect hl) k) Q) := by
  unfold slotPts
  iintro ⟨%f, %hf, H⟩ Hk
  subst hf
  iapply (wp_load 𝒱₀ (c : Thread nD τ) none Set.univ (m := commM) (by
    rw [slotM_set]
    exact Finset.map_subset_iff_subset_preimage.mpr (fun i hi => Finset.mem_preimage.mpr hi))) $$ H
  iintro H
  iapply Hk
  iexists f
  isplitr; · ipureintro; rfl
  iexact H

/-- A store of a held slot leaves it at the value stored. -/
theorem slot_store (c : Dev nD) (X w : Vec F S1x512x1024 .bf16) {α : Type} {Q : α → sProp 𝕄}
    {hx : (commM.access (slotR o ho)).Stores Finset.univ} {hm : _}
    {k : PUnit → Prog (TpuEff nD τ sig (Elt F) Λ₀ .tc) α} :
    slotPts o ho c X
      ⊢ iprop((slotPts o ho c w -∗ wp frame (wpE (defs₀ (F := F)) 𝒱₀ (c : Thread nD τ) none) Set.univ (k ⟨⟩) Q)
          -∗ wp frame (wpE (defs₀ (F := F)) 𝒱₀ (c : Thread nD τ) none) Set.univ
              (.op (.store commM (slotR o ho) w Finset.univ hx hm) k) Q) := by
  unfold slotPts
  iintro ⟨%f, -, H⟩ Hk
  iapply (wp_store 𝒱₀ (c : Thread nD τ) none Set.univ (m := commM) (r := slotR o ho) (Mk := Finset.univ) (by
    rw [slotM_set, View.setOn_univ]
    exact (View.set_slice_whole cc0_scratch3 (slotR o ho)).le)) $$ H
  iintro H
  iapply Hk
  iexists _
  isplitr
  swap; · iexact H
  ipureintro
  exact View.read_write_univ (v := commM.access (slotR o ho)) f w

end Slot

omit [FloatOps F] in
/-- A slot filled from another slot is read as that one was. -/
theorem landed_slot (o o' : Fin 3 → ℕ) (ho : ∀ a, o a + S1x512x1024.size a ≤ S4x512x1024.size a)
    (ho' : ∀ a, o' a + S1x512x1024.size a ≤ S4x512x1024.size a)
    (f g : (cc0_scratch3 : Ref sig .tc).ty.Contents (Elt F)) :
    commM.view.readAt (Elt F) (slotR o' ho').toLoadRect
        ((slotM o' ho').view.write (Elt F) g ((slotM o ho).view.read (Elt F) f) Finset.univ)
      = commM.view.readAt (Elt F) (slotR o ho).toLoadRect f := by
  have h1 := View.read_write_univ (v := (slotM o' ho').view) (Val := Elt F) g ((slotM o ho).view.read (Elt F) f)
  rw [Memref.read_squeeze_slice (Val := Elt F) commM (slotR o' ho') (fun _ => rfl) squeezes_S1x512x1024_S512x1024
      shapeCasts_S1x512x1024_S512x1024,
    Memref.read_squeeze_slice (Val := Elt F) commM (slotR o ho) (fun _ => rfl) squeezes_S1x512x1024_S512x1024
      shapeCasts_S1x512x1024_S512x1024] at h1
  have h2 := congrArg (fun v => shapeCast S1x512x1024 v shapeCasts_S512x1024_S1x512x1024) h1
  rw [shapeCast_shapeCast, shapeCast_shapeCast] at h2
  exact h2

/-! ## The buffer cut into its four slots -/

abbrev o0 : Fin 3 → ℕ := ![0, 0, 0]
abbrev o1 : Fin 3 → ℕ := ![1, 0, 0]
abbrev o2 : Fin 3 → ℕ := ![2, 0, 0]
abbrev o3 : Fin 3 → ℕ := ![3, 0, 0]

/-- The four slots at contents `X₀ … X₃`. -/
abbrev slot0 (c : Dev nD) (X : Vec F S1x512x1024 .bf16) : sProp 𝕄 := slotPts o0 inb_S4x512x1024_S1x512x1024_0_0_0 c X
abbrev slot1 (c : Dev nD) (X : Vec F S1x512x1024 .bf16) : sProp 𝕄 := slotPts o1 inb_S4x512x1024_S1x512x1024_1_0_0 c X
abbrev slot2 (c : Dev nD) (X : Vec F S1x512x1024 .bf16) : sProp 𝕄 := slotPts o2 inb_S4x512x1024_S1x512x1024_2_0_0 c X
abbrev slot3 (c : Dev nD) (X : Vec F S1x512x1024 .bf16) : sProp 𝕄 := slotPts o3 inb_S4x512x1024_S1x512x1024_3_0_0 c X

/-- Slot `b`'s offset. -/
def slotOff (b : Fin 4) : Fin 3 → ℕ := ![b.val, 0, 0]
theorem slotOff_inb : ∀ b : Fin 4, ∀ a, slotOff b a + S1x512x1024.size a ≤ S4x512x1024.size a := by decide

/-- Slot `b`'s elements. -/
def slotSet (b : Fin 4) : Finset (S4x512x1024.Idx) := (slotR (slotOff b) (slotOff_inb b)).set

theorem slotSet_disjoint (b b' : Fin 4) (h : b ≠ b') : Disjoint (slotSet b) (slotSet b') :=
  Idealize.ShloMosaic.Ring.lead_disjoint (s := S4x512x1024) 0 1 slotOff S1x512x1024.size slotOff_inb
    (fun b => by simp [slotOff]) rfl b b' h

theorem slotSet_cover : Finset.univ.biUnion slotSet = Finset.univ :=
  Idealize.ShloMosaic.Ring.lead_cover (s := S4x512x1024) 0 1 slotOff S1x512x1024.size slotOff_inb
    (fun b => by simp [slotOff]) (by decide) rfl (by decide) rfl

theorem slotM_set0 : (slotM o0 inb_S4x512x1024_S1x512x1024_0_0_0).view.set = slotSet 0 := slotM_set _ _
theorem slotM_set1 : (slotM o1 inb_S4x512x1024_S1x512x1024_1_0_0).view.set = slotSet 1 := slotM_set _ _
theorem slotM_set2 : (slotM o2 inb_S4x512x1024_S1x512x1024_2_0_0).view.set = slotSet 2 := slotM_set _ _
theorem slotM_set3 : (slotM o3 inb_S4x512x1024_S1x512x1024_3_0_0).view.set = slotSet 3 := slotM_set _ _

omit [FloatOps F] in
/-- A conjunction over four, written out. -/
theorem sep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- The whole buffer at some contents is its four slots at some contents, -/
theorem comm_cut (c : Dev nD) :
    iprop(∃ f : Buf (Elt F) ((c : Thread nD τ).loc cc0_scratch3), ((c : Thread nD τ).loc cc0_scratch3) ↦{fullShare} f)
      ⊢ (iprop((∃ X, slot0 c X) ∗ (∃ X, slot1 c X) ∗ (∃ X, slot2 c X) ∗ (∃ X, slot3 c X)) : sProp 𝕄) := by
  iintro ⟨%f, H⟩
  ihave H' := (Entails.of_eq ((Idealize.ShloMosaic.Ring.pointsTo_blocks (ℓ := (c : Thread nD τ).loc cc0_scratch3)
    slotSet slotSet_disjoint slotSet_cover (q := fullShare) f).trans
    (sep_four _))) $$ H
  icases H' with ⟨H0, H1, H2, H3⟩
  unfold slot0 slot1 slot2 slot3 slotPts
  isplitl [H0]
  · iexists _; iexists f; isplitr; · (ipureintro; rfl)
    rw [slotM_set0]; iexact H0
  isplitl [H1]
  · iexists _; iexists f; isplitr; · (ipureintro; rfl)
    rw [slotM_set1]; iexact H1
  isplitl [H2]
  · iexists _; iexists f; isplitr; · (ipureintro; rfl)
    rw [slotM_set2]; iexact H2
  · iexists _; iexists f; isplitr; · (ipureintro; rfl)
    rw [slotM_set3]; iexact H3

/-- and back. -/
theorem comm_join (c : Dev nD) (X₀ X₁ X₂ X₃ : Vec F S1x512x1024 .bf16) :
    iprop(slot0 c X₀ ∗ slot1 c X₁ ∗ slot2 c X₂ ∗ slot3 c X₃)
      ⊢ (iprop(∃ f : Buf (Elt F) ((c : Thread nD τ).loc cc0_scratch3), ((c : Thread nD τ).loc cc0_scratch3) ↦{fullShare} f) : sProp 𝕄) := by
  unfold slot0 slot1 slot2 slot3 slotPts
  iintro ⟨⟨%f0, -, H0⟩, ⟨%f1, -, H1⟩, ⟨%f2, -, H2⟩, ⟨%f3, -, H3⟩⟩
  iapply (Idealize.ShloMosaic.Ring.pointsTo_blocks_join_exists (ℓ := (c : Thread nD τ).loc cc0_scratch3)
    slotSet slotSet_disjoint slotSet_cover (q := fullShare) f0)
  rw [sep_four]
  rw [slotM_set0, slotM_set1, slotM_set2, slotM_set3]
  isplitl [H0]; · (iexists f0; iexact H0)
  isplitl [H1]; · (iexists f1; iexact H1)
  isplitl [H2]; · (iexists f2; iexact H2)
  iexists f3; iexact H3

/-! ## The buffer of the eight expert matrices, filled one matrix at a time -/

section Fill
variable (G E : (cc0_scratch0 : Ref sig .tc).ty.Contents (Elt F))

/-- The first `n` matrices are `E`'s, the rest `G`'s. -/
def fillTo (n : ℕ) : (cc0_scratch0 : Ref sig .tc).ty.Contents (Elt F) :=
  fun i => if ((i : S8x512x1024.Idx) 0).val < n then E i else G i

omit [FloatOps F] in
theorem fillTo_zero : fillTo G E 0 = G := funext fun i => if_neg (Nat.not_lt_zero _)
omit [FloatOps F] in
theorem fillTo_all : fillTo G E 8 = E := funext fun i => if_pos ((i : S8x512x1024.Idx) 0).isLt

omit [FloatOps F] in
/-- Storing matrix `n` of `E` (read by the same rectangle) extends the filled part by one. -/
theorem fillTo_store (n : ℕ) (o : Fin 3 → ℕ) (ho : ∀ a, o a + S1x512x1024.size a ≤ S8x512x1024.size a)
    (e0 : o 0 = n) (e1 : o 1 = 0) (e2 : o 2 = 0) (w : Vec F S1x512x1024 .bf16)
    (hw : w = fun x => E ((Rect.unit (s := S8x512x1024) o S1x512x1024.size ho).emb x)) :
    (expM.access (Rect.unit (s := S8x512x1024) o S1x512x1024.size ho) : View sig .tc _ _ _).write (Elt F) (fillTo G E n) w Finset.univ
      = fillTo G E (n + 1) := by
  subst hw
  funext i
  by_cases hi : i ∈ (Rect.unit (s := S8x512x1024) o S1x512x1024.size ho).set
  · rw [← Rect.map_emb_univ] at hi
    obtain ⟨x, -, rfl⟩ := Finset.mem_map.mp hi
    have h := View.write_emb_of_mem (v := expM.access (Rect.unit (s := S8x512x1024) o S1x512x1024.size ho)) (Val := Elt F)
      (fillTo G E n) (fun x => E ((Rect.unit (s := S8x512x1024) o S1x512x1024.size ho).emb x)) (Finset.mem_univ x)
    refine h.trans ?_
    have hm := (Rect.mem_set_unit.mp (show (Rect.unit (s := S8x512x1024) o S1x512x1024.size ho).emb x ∈
      (Rect.unit (s := S8x512x1024) o S1x512x1024.size ho).set by
        rw [← Rect.map_emb_univ]; exact Finset.mem_map_of_mem _ (Finset.mem_univ x))) 0
    unfold fillTo
    rw [if_pos (by have := hm.2; rw [e0] at this; exact this)]
    rfl
  · rw [View.write_of_not_mem (v := expM.access (Rect.unit (s := S8x512x1024) o S1x512x1024.size ho)) (Val := Elt F) _ _ _ (by
      rw [View.setOn_univ]; intro h
      exact hi ((View.set_slice_whole cc0_scratch0 (Rect.unit (s := S8x512x1024) o S1x512x1024.size ho)).le h))]
    have hne : ((i : S8x512x1024.Idx) 0).val ≠ n := fun h => hi (Rect.mem_set_unit.mpr fun a => by
      have h1 : ((i : S8x512x1024.Idx) 1).val < 512 := ((i : S8x512x1024.Idx) 1).isLt
      have h2 : ((i : S8x512x1024.Idx) 2).val < 1024 := ((i : S8x512x1024.Idx) 2).isLt
      match a with
      | ⟨0, _⟩ =>
        show o 0 ≤ ((i : S8x512x1024.Idx) 0).val ∧ ((i : S8x512x1024.Idx) 0).val < o 0 + 1
        omega
      | ⟨1, _⟩ =>
        show o 1 ≤ ((i : S8x512x1024.Idx) 1).val ∧ ((i : S8x512x1024.Idx) 1).val < o 1 + 512
        omega
      | ⟨2, _⟩ =>
        show o 2 ≤ ((i : S8x512x1024.Idx) 2).val ∧ ((i : S8x512x1024.Idx) 2).val < o 2 + 1024
        omega
      | ⟨_ + 3, h3⟩ => exact absurd h3 (Nat.not_lt.2 (Nat.le_add_left _ _)))
    unfold fillTo
    by_cases h : ((i : S8x512x1024.Idx) 0).val < n
    · rw [if_pos h, if_pos (by omega)]
    · rw [if_neg h, if_neg (by omega)]

end Fill

end Cert.KernelIdeal.MoE

end
-- ==== Proof.Contents.lean ====
/-
What every buffer of the expert-parallel kernel holds, device by device.

Device `c` first computes the gate weights of ALL tokens (`gates`) and copies the tokens (`toks`) and its own eight
expert matrices (`mats`) to on-core buffers. One hop's partial product takes a chunk's gate rows `w`, its token rows
`x` and the eight matrices `e0 … e7`: `start0` is the chunk a device sends first, `hop0` and `hop1` add a device's own
partial product to the one received, `hop2` is the last addition, kept in the result's precision. The four are the
values the kernel stores, spelt by the printed values it stores them as.

`held0 d`, `held1 d`, `held2 d` are what device `d` sends at the three hops — each the hop's function at what the left
neighbour sent the hop before —, and `outAt d` its result.
-/
module

public import proofs.«01_k».proof.Proof.Slots

@[expose] public section

noncomputable section

namespace Cert.KernelIdeal.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## One hop's value -/

abbrev io : IVec S512x32 32 := iota .tc S512x32 32 [1] iota_S512x32_d1_w32

section Hop
variable (v : BitVec 32) (w : Vec F S512x32 .f32) (x : Vec F S512x512 .bf16) (e0 e1 e2 e3 e4 e5 e6 e7 r : Vec F S1x512x1024 .bf16)

/-- The first chunk sent: this device's partial product of it. -/
def start0 : FVec F S1x512x1024 .bf16 :=
  k0_pay21 v io w x
    (k0_pay18 v io w x (k0_pay17 v io w x (k0_pay14 v w x e0) (k0_pay15 v) (k0_pay16 (F := F)) e1 e2 e3) (Scalar.muli v 8#32) e4 e5)
    (k0_pay19 v io w) (k0_pay20 e6) (constant S512x1024 .f32 0x00000000#32) e7

/-- The chunk received at the first hop, this device's partial product added. -/
def hop0 : FVec F S1x512x1024 .bf16 :=
  k0_pay28 x
    (k0_pay26 v io w x (k0_pay23 v io w x (k0_pay22 v io w x e0 e1) (Scalar.muli v 8#32) 2#32 e2 e3) (k0_pay24 v io w) (k0_pay25 x e4) e5 e6)
    (k0_pay27 v io w) e7 r

/-- The chunk received at the second hop, this device's partial product added. -/
def hop1 : FVec F S1x512x1024 .bf16 :=
  k0_pay34 io w x
    (k0_pay33 v io w x (k0_pay31 v io w x (k0_pay29 v io w x e0) (k0_pay30 v io w) e1 e2 e3) (k0_pay32 v io w) e4 e5 e6)
    (Scalar.addi (Scalar.muli v 8#32) 7#32) e7 r

/-- The chunk received at the last hop, this device's partial product added: the result. -/
def hop2 : FVec F S512x1024 .f32 :=
  k0_pay41 v io w x
    (k0_pay38 v io w x (k0_pay37 v io w x (k0_pay35 v io w x e0) (k0_pay36 v io) (Scalar.ofBits .f32 0x00000000#32) e1 e2 e3) 8#32 e4 e5)
    (k0_pay39 v io w) (k0_pay40 e6) e7 r

end Hop

/-! ## The ring -/

set_option backward.proofsInPublic true in
/-- The right neighbour, -/
def nxt (c : Dev nD) : Dev nD := ⟨(c.val + 1) % 4, Nat.mod_lt _ (by decide)⟩
set_option backward.proofsInPublic true in
/-- and the left one. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- A turn of the ring. -/
def ring : Dev nD ≃ Dev nD := ⟨nxt, prv, prv_nxt, nxt_prv⟩

/-- The first signal goes left, the second right, every transfer right. -/
theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = nxt c := Fin.ext (k0_dev5_eq c)

/-! ## The buffers' contents -/

section Contents
variable (m : (ℓ : Loc nD τ sig) → Buf (Elt F) ℓ)

/-- The staged operands: tokens, router weights, the tokens' expert pairs, this device's expert matrices. -/
def xin (c : Dev nD) : (cc0_stg0_0 : Ref sig .tc).ty.Contents (Elt F) :=
  (win0_0.blk (0 : Fin 1)).view.read (Elt F) (m ((c : Thread nD τ).loc main_arg0))
def rwin (c : Dev nD) : (cc0_stg1_0 : Ref sig .tc).ty.Contents (Elt F) :=
  (win0_1.blk (0 : Fin 1)).view.read (Elt F) (m ((c : Thread nD τ).loc main_arg1))
def riin (c : Dev nD) : (cc0_stg2_0 : Ref sig .tc).ty.Contents (Elt F) :=
  (win0_2.blk (0 : Fin 1)).view.read (Elt F) (m ((c : Thread nD τ).loc main_arg2))
def mats (c : Dev nD) : (cc0_stg3_0 : Ref sig .tc).ty.Contents (Elt F) :=
  (win0_3.blk (0 : Fin 1)).view.read (Elt F) (m ((c : Thread nD τ).loc main_arg3))

/-- The staged operands as the kernel's loads read them. -/
def ldX (c : Dev nD) : Vec F S2048x512 .bf16 :=
  (Memref.whole cc0_stg0_0).view.readAt (Elt F) (Rect.unit (s := S2048x512) ![0, 0] S2048x512.size inb_S2048x512_S2048x512_0_0).toLoadRect (xin m c)
def ldR (c : Dev nD) : Vec F S512x32 .bf16 :=
  (Memref.whole cc0_stg1_0).view.readAt (Elt F) (Rect.unit (s := S512x32) ![0, 0] S512x32.size inb_S512x32_S512x32_0_0).toLoadRect (rwin m c)
def ldI0 (c : Dev nD) : Vec F S2048x1 .i32 :=
  (Memref.whole cc0_stg2_0).view.readAt (Elt F) (Rect.unit (s := S2048x2) ![0, 0] S2048x1.size inb_S2048x2_S2048x1_0_0).toLoadRect (riin m c)
def ldI1 (c : Dev nD) : Vec F S2048x1 .i32 :=
  (Memref.whole cc0_stg2_0).view.readAt (Elt F) (Rect.unit (s := S2048x2) ![0, 1] S2048x1.size inb_S2048x2_S2048x1_0_1).toLoadRect (riin m c)

/-- The gate weight of every token at every expert, -/
def gates (c : Dev nD) : (cc0_scratch1 : Ref sig .tc).ty.Contents (Elt F) :=
  k0_pay4 (k0_pay2 (ldX m c) (ldR m c)) (iota .tc S2048x32 32 [1] iota_S2048x32_d1_w32) (k0_pay3 (ldI0 m c)) (ldI1 m c)
/-- and the tokens. -/
def toks (c : Dev nD) : (cc0_scratch2 : Ref sig .tc).ty.Contents (Elt F) := k0_pay5 (k0_pay1 (ldX m c))

/-- Expert matrix `j` as the kernel's loads read it. -/
abbrev mat (o : Fin 3 → ℕ) (ho : ∀ a, o a + S1x512x1024.size a ≤ S8x512x1024.size a) (c : Dev nD) : Vec F S1x512x1024 .bf16 :=
  expM.view.readAt (Elt F) (Rect.unit (s := S8x512x1024) o S1x512x1024.size ho).toLoadRect (mats m c)
abbrev mat0 (c : Dev nD) : Vec F S1x512x1024 .bf16 := mat m ![0, 0, 0] inb_S8x512x1024_S1x512x1024_0_0_0 c
abbrev mat1 (c : Dev nD) : Vec F S1x512x1024 .bf16 := mat m ![1, 0, 0] inb_S8x512x1024_S1x512x1024_1_0_0 c
abbrev mat2 (c : Dev nD) : Vec F S1x512x1024 .bf16 := mat m ![2, 0, 0] inb_S8x512x1024_S1x512x1024_2_0_0 c
abbrev mat3 (c : Dev nD) : Vec F S1x512x1024 .bf16 := mat m ![3, 0, 0] inb_S8x512x1024_S1x512x1024_3_0_0 c
abbrev mat4 (c : Dev nD) : Vec F S1x512x1024 .bf16 := mat m ![4, 0, 0] inb_S8x512x1024_S1x512x1024_4_0_0 c
abbrev mat5 (c : Dev nD) : Vec F S1x512x1024 .bf16 := mat m ![5, 0, 0] inb_S8x512x1024_S1x512x1024_5_0_0 c
abbrev mat6 (c : Dev nD) : Vec F S1x512x1024 .bf16 := mat m ![6, 0, 0] inb_S8x512x1024_S1x512x1024_6_0_0 c
abbrev mat7 (c : Dev nD) : Vec F S1x512x1024 .bf16 := mat m ![7, 0, 0] inb_S8x512x1024_S1x512x1024_7_0_0 c

/-- A chunk's gate rows and token rows, at the offset the kernel loads them from. -/
abbrev wAt (c : Dev nD) (o : Fin 2 → ℕ) (ho : ∀ a, o a + S512x32.size a ≤ S2048x32.size a) : Vec F S512x32 .f32 :=
  (Memref.whole cc0_scratch1).view.readAt (Elt F) (Rect.unit (s := S2048x32) o S512x32.size ho).toLoadRect (gates m c)
abbrev xAt (c : Dev nD) (o : Fin 2 → ℕ) (ho : ∀ a, o a + S512x512.size a ≤ S2048x512.size a) : Vec F S512x512 .bf16 :=
  (Memref.whole cc0_scratch2).view.readAt (Elt F) (Rect.unit (s := S2048x512) o S512x512.size ho).toLoadRect (toks m c)

/-- Device `c`'s number as the kernel computes it. -/
abbrev me (c : Dev nD) : BitVec 32 := Scalar.remsi (Scalar.divsi (Dev.word c) 1#32) 4#32

/-- What device `c` sends at the three hops, -/
def held0 (c : Dev nD) : Vec F S1x512x1024 .bf16 :=
  start0 (me c) (wAt m c (k0_off1 c) (k0_off1_inb c)) (xAt m c (k0_off2 c) (k0_off2_inb c))
    (mat0 m c) (mat1 m c) (mat2 m c) (mat3 m c) (mat4 m c) (mat5 m c) (mat6 m c) (mat7 m c)
def held1 (c : Dev nD) : Vec F S1x512x1024 .bf16 :=
  hop0 (me c) (wAt m c (k0_off3 c 0#32) (k0_off3_inb c 0)) (xAt m c (k0_off4 c 0#32) (k0_off4_inb c 0))
    (mat0 m c) (mat1 m c) (mat2 m c) (mat3 m c) (mat4 m c) (mat5 m c) (mat6 m c) (mat7 m c) (held0 m (prv c))
def held2 (c : Dev nD) : Vec F S1x512x1024 .bf16 :=
  hop1 (me c) (wAt m c (k0_off3 c 1#32) (k0_off3_inb c 1)) (xAt m c (k0_off4 c 1#32) (k0_off4_inb c 1))
    (mat0 m c) (mat1 m c) (mat2 m c) (mat3 m c) (mat4 m c) (mat5 m c) (mat6 m c) (mat7 m c) (held1 m (prv c))
/-- and its result. -/
def outAt (c : Dev nD) : (cc0_stg4_0 : Ref sig .tc).ty.Contents (Elt F) :=
  hop2 (me c) (wAt m c (k0_off3 c 2#32) (k0_off3_inb c 2)) (xAt m c (k0_off4 c 2#32) (k0_off4_inb c 2))
    (mat0 m c) (mat1 m c) (mat2 m c) (mat3 m c) (mat4 m c) (mat5 m c) (mat6 m c) (mat7 m c) (held2 m (prv c))

end Contents

end Cert.KernelIdeal.MoE

end
-- ==== Proof.Protocol.lean ====
/-
The exchange protocol of the expert-parallel kernel, as a schedule of one round.

The four devices form a ring. At entry every device signals the barrier semaphore of both neighbours and waits for two
units of its own: its right neighbour's signal (duty `true`) hands over the right neighbour's three landing slots, with
the knowledge that their receive cells are at round 0; its left neighbour's (duty `false`) hands over nothing. Then three
hops. Hop `h` moves what the device holds — slot 3, then slot 0, then slot 1 — to slot `h` of its right neighbour:
the receive cell's duty is paid with the landed slot at the contents sent, the send cell's with the source slot given
back. A device waits for hop `h` before it sends hop `h + 1`, and collects its three source slots at the end.

A receive cell lies above the barrier cells, and each hop's above the hop's before it: a device waiting for a hop owes
its right neighbour only later hops.
-/
module

public import proofs.«01_k».proof.Proof.Contents

@[expose] public section

noncomputable section

namespace Cert.KernelIdeal.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The two copies of the round ghost state: the staging copies', and the exchange protocol's. -/
abbrev EP : Emb (UR sig nD τ) (MT nD τ sig Unit (Elt F) ℕ UU ℕ) := embL
abbrev ER : Emb UB (MT nD τ sig Unit (Elt F) ℕ UU ℕ) := embR

/-! ## The semaphores and their cells -/

/-- The barrier semaphore, shared by the neighbours; the send and the receive semaphores of the three hops. -/
abbrev barS : Sem sig := (SemArray.scalar (sig.barrier 0 rfl) : Sems sig S_).sem
abbrev sS0 : DmaSem sig := ((cc0_scratch4.slice (Rect.unit (s := S3) ![0] S1.size inb_S3_S1_0)).squeeze S_ squeezes_S1_S_).sem
abbrev sS1 : DmaSem sig := ((cc0_scratch4.slice (Rect.unit (s := S3) ![1] S1.size inb_S3_S1_1)).squeeze S_ squeezes_S1_S_).sem
abbrev sS2 : DmaSem sig := ((cc0_scratch4.slice (Rect.unit (s := S3) ![2] S1.size inb_S3_S1_2)).squeeze S_ squeezes_S1_S_).sem
abbrev rS0 : DmaSem sig := ((cc0_scratch5.slice (Rect.unit (s := S3) ![0] S1.size inb_S3_S1_0)).squeeze S_ squeezes_S1_S_).sem
abbrev rS1 : DmaSem sig := ((cc0_scratch5.slice (Rect.unit (s := S3) ![1] S1.size inb_S3_S1_1)).squeeze S_ squeezes_S1_S_).sem
abbrev rS2 : DmaSem sig := ((cc0_scratch5.slice (Rect.unit (s := S3) ![2] S1.size inb_S3_S1_2)).squeeze S_ squeezes_S1_S_).sem

abbrev barC (c : Dev nD) : GSem nD τ sig := ((c : Thread nD τ), .reg barS)
abbrev sC0 (c : Dev nD) : GSem nD τ sig := ((c : Thread nD τ), .dma sS0)
abbrev sC1 (c : Dev nD) : GSem nD τ sig := ((c : Thread nD τ), .dma sS1)
abbrev sC2 (c : Dev nD) : GSem nD τ sig := ((c : Thread nD τ), .dma sS2)
abbrev rC0 (c : Dev nD) : GSem nD τ sig := ((c : Thread nD τ), .dma rS0)
abbrev rC1 (c : Dev nD) : GSem nD τ sig := ((c : Thread nD τ), .dma rS1)
abbrev rC2 (c : Dev nD) : GSem nD τ sig := ((c : Thread nD τ), .dma rS2)

/-- The six transfer semaphores, as the launch lists them; -/
abbrev osem : Fin 6 → SemLoc sig := fun | 0 => .dma sS0 | 1 => .dma sS1 | 2 => .dma sS2 | 3 => .dma rS0 | 4 => .dma rS1 | 5 => .dma rS2
/-- all seven, the barrier first. -/
abbrev csem : Fin 7 → SemLoc sig := fun | 0 => .reg barS | 1 => .dma sS0 | 2 => .dma sS1 | 3 => .dma sS2 | 4 => .dma rS0 | 5 => .dma rS1 | 6 => .dma rS2
abbrev kcell (ck : Dev nD × Fin 7) : GSem nD τ sig := ((ck.1 : Thread nD τ), csem ck.2)

theorem csem_inj : Function.Injective csem := by decide
theorem csem_ne {a b : Fin 7} (h : a ≠ b) : csem a ≠ csem b := fun e => h (csem_inj e)

/-- A transfer's credit: one slot's. -/
abbrev N : ℕ := (slotM o0 inb_S4x512x1024_S1x512x1024_0_0_0).view.dmaCredit
theorem N_pos : 0 < N := View.dmaCredit_pos _ (by decide)

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The schedule -/

/-- What the right neighbour's entry signal hands device `c`. -/
def barPay (c : Dev nD) : sProp 𝕄 :=
  iprop((∃ X, slot0 (nxt c) X) ∗ (∃ X, slot1 (nxt c) X) ∗ (∃ X, slot2 (nxt c) X)
    ∗ reached ER (rC0 (nxt c)) 0 ∗ reached ER (rC1 (nxt c)) 0 ∗ reached ER (rC2 (nxt c)) 0)

/-- What each transfer's two cells are paid with. -/
def pay_sS0 (c : Dev nD) : sProp 𝕄 := slot3 c (held0 m c)
def pay_sS1 (c : Dev nD) : sProp 𝕄 := slot0 c (held1 m c)
def pay_sS2 (c : Dev nD) : sProp 𝕄 := slot1 c (held2 m c)
def pay_rS0 (c : Dev nD) : sProp 𝕄 := slot0 c (held0 m (prv c))
def pay_rS1 (c : Dev nD) : sProp 𝕄 := slot1 c (held1 m (prv c))
def pay_rS2 (c : Dev nD) : sProp 𝕄 := slot2 c (held2 m (prv c))

/-- One round. A barrier cell has two duties of one unit, a transfer's cell one duty of a slot's credit. -/
def xchg : Rounds.Schedule (GSem nD τ sig) Bool 𝕄 where
  duties g r := if r = 0 ∧ g.1.2 = .tc then (if g.2 = csem 0 then Finset.univ else if ∃ k, g.2 = osem k then {false} else ∅) else ∅
  unitless _ := False
  amount g _ _ := if g.2 = csem 0 then 1 else N
  payload g _ d :=
    if g.2 = csem 0 then (if d then barPay g.1.1 else iprop(emp))
    else if g.2 = csem 1 then pay_sS0 m g.1.1
    else if g.2 = csem 2 then pay_sS1 m g.1.1
    else if g.2 = csem 3 then pay_sS2 m g.1.1
    else if g.2 = csem 4 then pay_rS0 m g.1.1
    else if g.2 = csem 5 then pay_rS1 m g.1.1
    else if g.2 = csem 6 then pay_rS2 m g.1.1
    else iprop(emp)
  amount_pos g _ _ _ := by
    by_cases h : g.2 = csem 0
    · rw [if_pos h]; exact Nat.one_pos
    · rw [if_neg h]; exact N_pos

instance xchg_storable (g : GSem nD τ sig) (r : ℕ) (d : Bool) :
    BI.Storable (upEmb : UEmb _ 𝕄) ((xchg (F := F) m).payload g r d) := by
  dsimp only [xchg]
  unfold barPay pay_sS0 pay_sS1 pay_sS2 pay_rS0 pay_rS1 pay_rS2
  (repeat' split) <;> infer_instance

section Sched
variable (c : Dev nD)

theorem duties_later (g : GSem nD τ sig) : ∀ r, 1 ≤ r → (xchg (F := F) m).duties g r = ∅ :=
  fun r hr => by dsimp only [xchg]; exact if_neg fun h => by omega

theorem duties_bar : (xchg (F := F) m).duties (barC c) 0 = Finset.univ := by
  dsimp only [xchg]; rw [if_pos ⟨rfl, rfl⟩]; exact if_pos rfl
theorem duties_xfer (k : Fin 6) : (xchg (F := F) m).duties ((c : Thread nD τ), osem k) 0 = {false} := by
  dsimp only [xchg]
  rw [if_pos ⟨rfl, rfl⟩, if_neg (by revert k; decide)]
  exact if_pos ⟨k, rfl⟩
theorem amount_bar (d : Bool) : (xchg (F := F) m).amount (barC c) 0 d = 1 := by dsimp only [xchg]; exact if_pos rfl
theorem amount_xfer (k : Fin 6) (d : Bool) : (xchg (F := F) m).amount ((c : Thread nD τ), osem k) 0 d = N := by
  dsimp only [xchg]; exact if_neg (by revert k; decide)

theorem expect_bar : (xchg (F := F) m).expect (barC c) 0 = 2 := by
  unfold Schedule.expect Schedule.amountOf
  rw [duties_bar, Finset.sum_congr rfl fun d _ => amount_bar m c d]; rfl
theorem expect_xfer (k : Fin 6) : (xchg (F := F) m).expect ((c : Thread nD τ), osem k) 0 = N := by
  unfold Schedule.expect Schedule.amountOf
  rw [duties_xfer, Finset.sum_singleton, amount_xfer]

theorem payload_bar_true : (xchg (F := F) m).payload (barC c) 0 true = barPay c := by
  dsimp only [xchg]; rw [if_pos rfl, if_pos rfl]
theorem payload_bar_false : (xchg (F := F) m).payload (barC c) 0 false = iprop(emp) := by
  dsimp only [xchg]; rw [if_pos rfl]; exact if_neg Bool.false_ne_true
theorem payload_sS0 (d : Bool) : (xchg (F := F) m).payload (sC0 c) 0 d = pay_sS0 m c := by
  dsimp only [xchg]
  rw [if_neg (csem_ne (by decide : (1 : Fin 7) ≠ 0))]; exact if_pos rfl
theorem payload_sS1 (d : Bool) : (xchg (F := F) m).payload (sC1 c) 0 d = pay_sS1 m c := by
  dsimp only [xchg]
  rw [if_neg (csem_ne (by decide : (2 : Fin 7) ≠ 0)), if_neg (csem_ne (by decide : (2 : Fin 7) ≠ 1))]; exact if_pos rfl
theorem payload_sS2 (d : Bool) : (xchg (F := F) m).payload (sC2 c) 0 d = pay_sS2 m c := by
  dsimp only [xchg]
  rw [if_neg (csem_ne (by decide : (3 : Fin 7) ≠ 0)), if_neg (csem_ne (by decide : (3 : Fin 7) ≠ 1)), if_neg (csem_ne (by decide : (3 : Fin 7) ≠ 2))]; exact if_pos rfl
theorem payload_rS0 (d : Bool) : (xchg (F := F) m).payload (rC0 c) 0 d = pay_rS0 m c := by
  dsimp only [xchg]
  rw [if_neg (csem_ne (by decide : (4 : Fin 7) ≠ 0)), if_neg (csem_ne (by decide : (4 : Fin 7) ≠ 1)), if_neg (csem_ne (by decide : (4 : Fin 7) ≠ 2)), if_neg (csem_ne (by decide : (4 : Fin 7) ≠ 3))]; exact if_pos rfl
theorem payload_rS1 (d : Bool) : (xchg (F := F) m).payload (rC1 c) 0 d = pay_rS1 m c := by
  dsimp only [xchg]
  rw [if_neg (csem_ne (by decide : (5 : Fin 7) ≠ 0)), if_neg (csem_ne (by decide : (5 : Fin 7) ≠ 1)), if_neg (csem_ne (by decide : (5 : Fin 7) ≠ 2)), if_neg (csem_ne (by decide : (5 : Fin 7) ≠ 3)), if_neg (csem_ne (by decide : (5 : Fin 7) ≠ 4))]; exact if_pos rfl
theorem payload_rS2 (d : Bool) : (xchg (F := F) m).payload (rC2 c) 0 d = pay_rS2 m c := by
  dsimp only [xchg]
  rw [if_neg (csem_ne (by decide : (6 : Fin 7) ≠ 0)), if_neg (csem_ne (by decide : (6 : Fin 7) ≠ 1)), if_neg (csem_ne (by decide : (6 : Fin 7) ≠ 2)), if_neg (csem_ne (by decide : (6 : Fin 7) ≠ 3)), if_neg (csem_ne (by decide : (6 : Fin 7) ≠ 4)), if_neg (csem_ne (by decide : (6 : Fin 7) ≠ 5))]; exact if_pos rfl

/-- All that a barrier's round brings: the right neighbour's handover. -/
theorem rest_bar : bigSep ((xchg (F := F) m).duties (barC c) 0 \ ∅) (fun d => (xchg (F := F) m).payload (barC c) 0 d)
    = iprop(emp ∗ barPay c) := by
  rw [Finset.sdiff_empty, duties_bar, bigSep_univ_eq_bigSepL [false, true] (by decide) (by decide), bigSepL_cons_cons, bigSepL_singleton,
    payload_bar_false, payload_bar_true]
  rfl
/-- All that a transfer's cell brings: its one payload. -/
theorem rest_xfer (k : Fin 6) {P : sProp 𝕄} (hP : (xchg (F := F) m).payload ((c : Thread nD τ), osem k) 0 false = P) :
    bigSep ((xchg (F := F) m).duties ((c : Thread nD τ), osem k) 0 \ ∅)
      (fun d => (xchg (F := F) m).payload ((c : Thread nD τ), osem k) 0 d) = P := by
  rw [Finset.sdiff_empty, duties_xfer, bigSep_singleton, hP]

end Sched

/-! ## What a device owes, and the levels -/

/-- After the first hop's send: the two later hops; -/
def OR1 (c : Dev nD) : CellTallies nD τ sig Unit := tallyAt (rC2 (nxt c)) () N + tallyAt (rC1 (nxt c)) () N
/-- before it: the three; -/
def OR0 (c : Dev nD) : CellTallies nD τ sig Unit := OR1 c + tallyAt (rC0 (nxt c)) () N
/-- before the second entry signal, -/
def O₁ (c : Dev nD) : CellTallies nD τ sig Unit := OR0 c + tallyAt (barC (nxt c)) () 1
/-- and at launch. -/
def O₀ (c : Dev nD) : CellTallies nD τ sig Unit := O₁ c + tallyAt (barC (prv c)) () 1

def L (g : GSem nD τ sig) : Finset Unit := if g.1.2 = .tc then {()} else ∅
/-- The level of a cell: its place in the order of waits. -/
def lv (g : GSem nD τ sig) (_ : Unit) : ℕ :=
  if g.2 = csem 0 then 1 else if g.2 = csem 4 then 2 else if g.2 = csem 5 then 3 else if g.2 = csem 6 then 4 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barC c) () = 1 := if_pos rfl
theorem lv_r0 (c : Dev nD) : lv (rC0 c) () = 2 := by
  unfold lv; rw [if_neg (csem_ne (by decide : (4 : Fin 7) ≠ 0))]; exact if_pos rfl
theorem lv_r1 (c : Dev nD) : lv (rC1 c) () = 3 := by
  unfold lv; rw [if_neg (csem_ne (by decide : (5 : Fin 7) ≠ 0)), if_neg (csem_ne (by decide : (5 : Fin 7) ≠ 4))]; exact if_pos rfl
theorem lv_r2 (c : Dev nD) : lv (rC2 c) () = 4 := by
  unfold lv
  rw [if_neg (csem_ne (by decide : (6 : Fin 7) ≠ 0)), if_neg (csem_ne (by decide : (6 : Fin 7) ≠ 4)), if_neg (csem_ne (by decide : (6 : Fin 7) ≠ 5))]
  exact if_pos rfl

theorem pos_add {A B : CellTallies nD τ sig Unit} {g : GSem nD τ sig} {u : Unit} (h : 0 < (A + B) g u) : 0 < A g u ∨ 0 < B g u := by
  rw [Pi.add_apply, Finsupp.add_apply] at h; omega
theorem pos_tally {x g : GSem nD τ sig} {n : ℕ} {u : Unit} (h : 0 < (tallyAt x () n : CellTallies nD τ sig Unit) g u) : g = x := by
  rw [tallyAt_apply] at h
  by_contra hn
  rw [if_neg fun h' => hn h'.1] at h
  exact Nat.lt_irrefl 0 h

/-- A wait at level `n` may be met by a device that owes only higher cells. -/
theorem mayWait_of (c : Dev nD) (s : SemLoc sig) (O : CellTallies nD τ sig Unit) (n : ℕ) (hs : lv ((c : Thread nD τ), s) () = n)
    (hO : ∀ g u, 0 < O g u → g.1.2 = .tc ∧ n < lv g ()) : (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp, hs])
    (fun g u hg => (hO g u hg).2)

theorem OR1_pos {c : Dev nD} {g : GSem nD τ sig} {u : Unit} (h : 0 < OR1 c g u) : g.1.2 = .tc ∧ 3 ≤ lv g () := by
  unfold OR1 at h
  rcases pos_add h with h | h
  · rw [pos_tally h]; exact ⟨rfl, by rw [lv_r2]; decide⟩
  · rw [pos_tally h]; exact ⟨rfl, by rw [lv_r1]⟩
theorem OR0_pos {c : Dev nD} {g : GSem nD τ sig} {u : Unit} (h : 0 < OR0 c g u) : g.1.2 = .tc ∧ 2 ≤ lv g () := by
  unfold OR0 at h
  rcases pos_add h with h | h
  · exact ⟨(OR1_pos h).1, by have := (OR1_pos h).2; omega⟩
  · rw [pos_tally h]; exact ⟨rfl, by rw [lv_r0]⟩
theorem O₀_pos {c : Dev nD} {g : GSem nD τ sig} {u : Unit} (h : 0 < O₀ c g u) : g.1.2 = .tc ∧ 1 ≤ lv g () := by
  unfold O₀ O₁ at h
  rcases pos_add h with h | h
  · rcases pos_add h with h | h
    · exact ⟨(OR0_pos h).1, by have := (OR0_pos h).2; omega⟩
    · rw [pos_tally h]; exact ⟨rfl, by rw [lv_bar]⟩
  · rw [pos_tally h]; exact ⟨rfl, by rw [lv_bar]⟩

theorem mayWait_bar (c : Dev nD) : (levAts L lv : sProp 𝕄) ⊢ MayWait (c : Thread nD τ) (.reg barS) () (OR0 c) :=
  mayWait_of c _ _ 1 (lv_bar c) fun g u h => ⟨(OR0_pos h).1, by have := (OR0_pos h).2; omega⟩
theorem mayWait_r0 (c : Dev nD) : (levAts L lv : sProp 𝕄) ⊢ MayWait (c : Thread nD τ) (.dma rS0) () (OR1 c) :=
  mayWait_of c _ _ 2 (lv_r0 c) fun g u h => ⟨(OR1_pos h).1, by have := (OR1_pos h).2; omega⟩
theorem mayWait_r1 (c : Dev nD) : (levAts L lv : sProp 𝕄) ⊢ MayWait (c : Thread nD τ) (.dma rS1) () (tallyAt (rC2 (nxt c)) () N) :=
  mayWait_of c _ _ 3 (lv_r1 c) fun g u h => by rw [pos_tally h]; exact ⟨rfl, by rw [lv_r2]; decide⟩

/-- A staging copy's wait, at launch or at exit. -/
theorem mayWait_stage (c : Dev nD) (q : DmaSem sig) (hq : ∀ k : Fin 7, (SemLoc.dma q : SemLoc sig) ≠ csem k)
    (O : CellTallies nD τ sig Unit) (hO : O = O₀ c ∨ O = 0) : (levAts L lv : sProp 𝕄) ⊢ MayWait (c : Thread nD τ) (.dma q) () O := by
  rcases hO with rfl | rfl
  · exact mayWait_of c _ _ 0 (by unfold lv; rw [if_neg (hq 0), if_neg (hq 4), if_neg (hq 5), if_neg (hq 6)])
      fun g u h => ⟨(O₀_pos h).1, (O₀_pos h).2⟩
  · rw [MayWait_zero]; iintro -; iempintro

/-! ## What a device starts from and leaves -/

/-- The cells' invariants the body opens: its own seven, both neighbours' barriers, the right neighbour's receive cells. -/
def invs (K : Dev nD × Fin 7 → ℕ) (c : Dev nD) : sProp 𝕄 :=
  iprop(cellInv ER (xchg m) (K (c, 0)) (barC c)
    ∗ cellInv ER (xchg m) (K (c, 1)) (sC0 c)
    ∗ cellInv ER (xchg m) (K (c, 2)) (sC1 c)
    ∗ cellInv ER (xchg m) (K (c, 3)) (sC2 c)
    ∗ cellInv ER (xchg m) (K (c, 4)) (rC0 c)
    ∗ cellInv ER (xchg m) (K (c, 5)) (rC1 c)
    ∗ cellInv ER (xchg m) (K (c, 6)) (rC2 c)
    ∗ cellInv ER (xchg m) (K (nxt c, 0)) (barC (nxt c))
    ∗ cellInv ER (xchg m) (K (prv c, 0)) (barC (prv c))
    ∗ cellInv ER (xchg m) (K (nxt c, 4)) (rC0 (nxt c))
    ∗ cellInv ER (xchg m) (K (nxt c, 5)) (rC1 (nxt c))
    ∗ cellInv ER (xchg m) (K (nxt c, 6)) (rC2 (nxt c)))

instance invs_persistent (K : Dev nD × Fin 7 → ℕ) (c : Dev nD) : BI.Persistent (invs m K c) := by unfold invs; infer_instance

/-- Its places in its own cells' rounds. -/
def places (c : Dev nD) : sProp 𝕄 :=
  iprop(atPos ER (barC c) 0 ∅ 0
    ∗ atPos ER (sC0 c) 0 ∅ 0
    ∗ atPos ER (sC1 c) 0 ∅ 0
    ∗ atPos ER (sC2 c) 0 ∅ 0
    ∗ atPos ER (rC0 c) 0 ∅ 0
    ∗ atPos ER (rC1 c) 0 ∅ 0
    ∗ atPos ER (rC2 c) 0 ∅ 0)
/-- The marks of the cells it pays and of its receive cells. -/
def marks (c : Dev nD) : sProp 𝕄 :=
  iprop(reached ER (barC (nxt c)) 0 ∗ reached ER (barC (prv c)) 0 ∗ reached ER (sC0 c) 0 ∗ reached ER (sC1 c) 0 ∗ reached ER (sC2 c) 0
    ∗ reached ER (rC0 c) 0 ∗ reached ER (rC1 c) 0 ∗ reached ER (rC2 c) 0)
/-- The duties it pays. -/
def payToks (c : Dev nD) : sProp 𝕄 :=
  iprop(dutyTok ER (barC (prv c)) 0 true ∗ dutyTok ER (barC (nxt c)) 0 false
    ∗ dutyTok ER (sC0 c) 0 false ∗ dutyTok ER (sC1 c) 0 false ∗ dutyTok ER (sC2 c) 0 false
    ∗ dutyTok ER (rC0 (nxt c)) 0 false ∗ dutyTok ER (rC1 (nxt c)) 0 false ∗ dutyTok ER (rC2 (nxt c)) 0 false)
def ghost (K : Dev nD × Fin 7 → ℕ) (c : Dev nD) : sProp 𝕄 := iprop(invs m K c ∗ places c ∗ marks c ∗ payToks c)
/-- The credit its waits spend. -/
def credits (c : Dev nD) : sProp 𝕄 :=
  iprop(cred (tallyAt (barC c) () 2) ∗ cred (tallyAt (rC0 c) () N) ∗ cred (tallyAt (rC1 c) () N) ∗ cred (tallyAt (rC2 c) () N))

def start (c : Dev nD) : sProp 𝕄 := iprop((∃ K, ghost m K c) ∗ credits c ∗ levAts L lv)

/-- The four on-core buffers at some contents. -/
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m c ∗ scratches c)
/-- At exit: the buffers again, and every counter at zero. -/
def Φ₁ (c : Dev nD) : sProp 𝕄 :=
  iprop(scratches c ∗ semVal (barC c) 0 ∗ semVal (sC0 c) 0 ∗ semVal (sC1 c) 0 ∗ semVal (sC2 c) 0 ∗ semVal (rC0 c) 0 ∗ semVal (rC1 c) 0 ∗ semVal (rC2 c) 0)

/-- The staging proof data: every operand's buffer holds what it held, the result's the device's result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => rwin m c
    | ⟨2, _⟩ => riin m c
    | ⟨3, _⟩ => mats m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.KernelIdeal.MoE

end
-- ==== Proof.Steps.lean ====
/-
The kernel's communication steps, each as one rule: the two entry signals, the entry wait, a hop's transfer, and the
wait on a transfer's cell. A rule takes what the step uses and gives what it leaves to the rest of the program.
-/
module

public import proofs.«01_k».proof.Proof.Protocol

@[expose] public section

noncomputable section

namespace Cert.KernelIdeal.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 7 → ℕ)

/-- Device `c` owes `O`, whatever it has waited on. -/
def owing (c : Dev nD) (O : CellTallies nD τ sig Unit) : sProp 𝕄 := iprop(∃ W, owes (c : Thread nD τ) O W)

/-- A buffer of device `c` at contents `X`. -/
abbrev holds (c : Dev nD) (b : Ref sig .tc) (X : b.ty.Contents (Elt F)) : sProp 𝕄 := ((c : Thread nD τ).loc b) ↦{fullShare} X

/-- The rest of device `c`'s program. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The first signal: to the left neighbour, with this device's three landing slots. -/
theorem signal_left {α : Type} {Q : α → sProp 𝕄} {k : PUnit → Prog (TpuEff nD τ sig (Elt F) Λ₀ .tc) α}
    (c n : Dev nD) (hn : n = prv c) :
    iprop(cellInv ER (xchg m) (K (prv c, 0)) (barC (prv c)) ∗ owing c (O₀ c) ∗ dutyTok ER (barC (prv c)) 0 true ∗ reached ER (barC (prv c)) 0
        ∗ ((∃ X, slot0 c X) ∗ (∃ X, slot1 c X) ∗ (∃ X, slot2 c X)
          ∗ reached ER (rC0 c) 0 ∗ reached ER (rC1 c) 0 ∗ reached ER (rC2 c) 0))
      ⊢ iprop((owing c (O₁ c) -∗ run c (k ⟨⟩) Q)
          -∗ run c (.op (.semSignal (Dev.tc n : Thread nD τ) barS (1#32 : BitVec 32).toNat) k) Q) := by
  subst hn
  unfold owing
  iintro ⟨#HI, ⟨%W, HO⟩, Ht, #Hr, Hpay⟩ Hk
  unfold O₀
  iapply (Rounds.wp_signal 𝒱₀ ER (xchg m) (c : Thread nD τ) none (dst := (prv c : Thread nD τ)) (κ := K (prv c, 0))
      (d := true) (by rw [duties_bar]; exact Finset.mem_univ _) ((amount_bar m (prv c) true).trans (by decide)) () (O₁ c) rfl)
    $$ [HO Ht Hpay]
  · isplitr; · iexact HI
    isplitl [HO]; · iexact HO
    isplitl [Ht]; · iexact Ht
    isplitl [Hpay]
    · rw [payload_bar_true]; unfold barPay; rw [nxt_prv]; iexact Hpay
    · iexact Hr
  iintro HO
  iapply Hk
  iexists W; iexact HO

/-- The second signal: to the right neighbour, with nothing. -/
theorem signal_right {α : Type} {Q : α → sProp 𝕄} {k : PUnit → Prog (TpuEff nD τ sig (Elt F) Λ₀ .tc) α}
    (c n : Dev nD) (hn : n = nxt c) :
    iprop(cellInv ER (xchg m) (K (nxt c, 0)) (barC (nxt c)) ∗ owing c (O₁ c) ∗ dutyTok ER (barC (nxt c)) 0 false ∗ reached ER (barC (nxt c)) 0)
      ⊢ iprop((owing c (OR0 c) -∗ run c (k ⟨⟩) Q)
          -∗ run c (.op (.semSignal (Dev.tc n : Thread nD τ) barS (1#32 : BitVec 32).toNat) k) Q) := by
  subst hn
  unfold owing
  iintro ⟨#HI, ⟨%W, HO⟩, Ht, #Hr⟩ Hk
  unfold O₁
  iapply (Rounds.wp_signal 𝒱₀ ER (xchg m) (c : Thread nD τ) none (dst := (nxt c : Thread nD τ)) (κ := K (nxt c, 0))
      (d := false) (by rw [duties_bar]; exact Finset.mem_univ _) ((amount_bar m (nxt c) false).trans (by decide)) () (OR0 c) rfl)
    $$ [HO Ht]
  · isplitr; · iexact HI
    isplitl [HO]; · iexact HO
    isplitl [Ht]; · iexact Ht
    isplitr
    · rw [payload_bar_false]; iempintro
    · iexact Hr
  iintro HO
  iapply Hk
  iexists W; iexact HO

/-- The entry wait: both neighbours' signals, and with them the right neighbour's landing slots. -/
theorem wait_bar {α : Type} {Q : α → sProp 𝕄} {k : PUnit → Prog (TpuEff nD τ sig (Elt F) Λ₀ .tc) α}
    (c : Dev nD) :
    iprop(cellInv ER (xchg m) (K (c, 0)) (barC c) ∗ cred (tallyAt (barC c) () 2) ∗ owing c (OR0 c) ∗ atPos ER (barC c) 0 ∅ 0 ∗ levAts L lv)
      ⊢ iprop(((owing c (OR0 c) ∗ atPos ER (barC c) 1 ∅ 0 ∗ barPay c) -∗ run c (k ⟨⟩) Q)
          -∗ run c (.op (.semWait barS (2#32 : BitVec 32).toNat) k) Q) := by
  unfold owing
  iintro ⟨#HI, Hc, ⟨%W, HO⟩, Hat, #Hlev⟩ Hk
  iapply (Rounds.wp_wait_rest_token 𝒱₀ ER (xchg m) (c : Thread nD τ) none (κ := K (c, 0))
      (wpE_semWait_eq 𝒱₀ (c : Thread nD τ) none Set.univ) (Set.mem_univ _) () (O := OR0 c) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  icases Hp with ⟨-, Hp⟩
  iapply Hk
  isplitl [HO]; · (iexists _; iexact HO)
  isplitl [Hat]; · iexact Hat
  iexact Hp

/-- A hop's transfer of the slot at offset `o` to the right neighbour's slot at offset `o'`: the receive duty is paid
with the landed slot, the send duty with the source slot. -/
theorem send_slot {α : Type} {Q : α → sProp 𝕄} {k : PUnit → Prog (TpuEff nD τ sig (Elt F) Λ₀ .tc) α}
    (c n : Dev nD) (hn : n = nxt c) (a b : Fin 6) (s r : DmaSem sig) (hs : osem a = .dma s) (hr : osem b = .dma r) (κ₁ κ₂ : ℕ)
    (o o' : Fin 3 → ℕ) (ho : ∀ a, o a + S1x512x1024.size a ≤ S4x512x1024.size a) (ho' : ∀ a, o' a + S1x512x1024.size a ≤ S4x512x1024.size a)
    (X : Vec F S1x512x1024 .bf16) (Orest : CellTallies nD τ sig Unit)
    (hp₁ : (xchg m).payload ((c : Thread nD τ), .dma s) 0 false = slotPts o ho c X)
    (hp₂ : (xchg m).payload ((nxt c : Thread nD τ), .dma r) 0 false = slotPts o' ho' (nxt c) X)
    {hsc : (slotM o' ho' : Memref sig (Dev.tc n : Thread nD τ).2.kind .vmem S512x1024 .bf16).view.ref.isScScratch = false}
    {hsrc : (slotM o ho).view.WordExact} {hdst : (slotM o' ho').view.WordExact}
    {hsem : DmaTarget.Typed .vmem (.dma r) (.remote (Dev.tc n : Thread nD τ) (slotM o' ho' : Memref sig .tc .vmem S512x1024 .bf16) (.dma s) hsc)} :
    iprop(cellInv ER (xchg m) κ₁ ((c : Thread nD τ), .dma s) ∗ cellInv ER (xchg m) κ₂ ((nxt c : Thread nD τ), .dma r)
        ∗ slotPts o ho c X ∗ (∃ Y, slotPts o' ho' (nxt c) Y)
        ∗ owing c (Orest + tallyAt ((nxt c : Thread nD τ), .dma r) () N)
        ∗ dutyTok ER ((c : Thread nD τ), .dma s) 0 false ∗ reached ER ((c : Thread nD τ), .dma s) 0
        ∗ dutyTok ER ((nxt c : Thread nD τ), .dma r) 0 false ∗ reached ER ((nxt c : Thread nD τ), .dma r) 0)
      ⊢ iprop(((cred (tallyAt ((c : Thread nD τ), .dma s) () N) ∗ owing c Orest) -∗ run c (k ⟨⟩) Q)
          -∗ run c (.op (.enqueueDma (slotM o ho) (.remote (Dev.tc n : Thread nD τ) (slotM o' ho') (.dma s) hsc) (.dma r) hsrc hdst hsem) k) Q) := by
  subst hn
  unfold owing slotPts
  iintro ⟨#HI₁, #HI₂, ⟨%f, %hf, Hsrc⟩, ⟨%Y, %g, -, Hdst⟩, ⟨%W, HO⟩, Ht₁, #Hr₁, Ht₂, #Hr₂⟩ Hk
  iapply (Rounds.wp_send_pointsTo 𝒱₀ ER (xchg m) (c : Thread nD τ) none (κ₁ := κ₁) (κ₂ := κ₂)
    (r₁ := 0) (r₂ := 0) (d₁ := false) (d₂ := false) (fd := g)
    (by rw [← hs, duties_xfer]; exact Finset.mem_singleton_self _) (by rw [← hr, duties_xfer]; exact Finset.mem_singleton_self _)
    () () N rfl (by rw [← hs]; exact amount_xfer m c a false) (by rw [← hr]; exact amount_xfer m (nxt c) b false) Orest rfl (W := W)
    (by rw [hp₁]; unfold slotPts; iintro H; iexists f; isplitr; · (ipureintro; exact hf)
        iexact H)
    (by rw [hp₂]; unfold slotPts; iintro H; iexists _; isplitr
        swap; · iexact H
        ipureintro; exact (landed_slot o o' ho ho' f g).trans hf)) $$ [Hsrc Hdst HO Ht₁ Ht₂]
  · isplitr; · iexact HI₁
    isplitr; · iexact HI₂
    isplitl [Hsrc]; · iexact Hsrc
    isplitl [Hdst]; · iexact Hdst
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

/-- The wait on a transfer's cell: its payload comes. -/
theorem wait_slot {α : Type} {Q : α → sProp 𝕄} {k : PUnit → Prog (TpuEff nD τ sig (Elt F) Λ₀ .tc) α}
    (c : Dev nD) (a : Fin 6) (s : DmaSem sig) (hs : osem a = .dma s) (κ : ℕ)
    (o o' : Fin 3 → ℕ) (ho : ∀ a, o a + S1x512x1024.size a ≤ S4x512x1024.size a) (ho' : ∀ a, o' a + S1x512x1024.size a ≤ S4x512x1024.size a)
    (O : CellTallies nD τ sig Unit) (hO : (levAts L lv : sProp 𝕄) ⊢ MayWait (c : Thread nD τ) (.dma s) () O)
    {P : sProp 𝕄} (hP : (xchg m).payload ((c : Thread nD τ), .dma s) 0 false = P)
    {hsrc : (slotM o ho).view.WordExact} {hdst : (slotM o' ho').view.WordExact} :
    iprop(cellInv ER (xchg m) κ ((c : Thread nD τ), .dma s) ∗ cred (tallyAt ((c : Thread nD τ), .dma s) () N) ∗ owing c O
        ∗ atPos ER ((c : Thread nD τ), .dma s) 0 ∅ 0 ∗ levAts L lv)
      ⊢ iprop(((owing c O ∗ atPos ER ((c : Thread nD τ), .dma s) 1 ∅ 0 ∗ P) -∗ run c (k ⟨⟩) Q)
          -∗ run c (.op (.waitDma2 s (slotM o ho) (slotM o' ho') hsrc hdst) k) Q) := by
  unfold owing
  iintro ⟨#HI, Hc, ⟨%W, HO⟩, Hat, #Hlev⟩ Hk
  iapply (Rounds.wp_wait_rest_token 𝒱₀ ER (xchg m) (c : Thread nD τ) none (κ := κ)
      (wpE_waitDma2_eq 𝒱₀ (c : Thread nD τ) none Set.univ) (Set.mem_univ _) () (O := O) (W := W) (R := 0) (m := 0) (T := ∅)
      (by rw [Nat.zero_add, ← hs, expect_xfer])) $$ [Hc HO Hat]
  · isplitr; · iexact HI
    isplitl [Hc]; · iexact Hc
    isplitl [HO]; · iexact HO
    isplitr; · iapply hO; iexact Hlev
    iexact Hat
  iintro ⟨HO, Hat, -, Hpay⟩
  ihave Hp := (Entails.of_eq ((by rw [← hs]; exact rest_xfer m c a (by rw [hs]; exact hP)) :
    bigSep ((xchg m).duties ((c : Thread nD τ), .dma s) 0 \ ∅) (fun d => (xchg m).payload ((c : Thread nD τ), .dma s) 0 d) = P)) $$ Hpay
  iapply Hk
  isplitl [HO]; · (iexists _; iexact HO)
  isplitl [Hat]; · iexact Hat
  iexact Hp

end Cert.KernelIdeal.MoE

end
-- ==== Proof.Parts.lean ====
/-
The kernel's program, part by part: what each printed part of it uses, what it leaves, and the value it returns.
-/
module

public import proofs.«01_k».proof.Proof.Steps

@[expose] public section

noncomputable section

namespace Cert.KernelIdeal.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 7 → ℕ)

omit [FloatOps F] in
theorem hz2 : (![0, 0] : Fin 2 → Nat) = fun _ => 0 := funext fun a => by fin_cases a <;> rfl

/-- A buffer stored whole holds the value stored. -/
theorem stored_A1 (f w : (cc0_scratch1 : Ref sig .tc).ty.Contents (Elt F)) :
    ((Memref.whole cc0_scratch1).access (Rect.unit (s := S2048x32) ![0, 0] S2048x32.size inb_S2048x32_S2048x32_0_0) : View sig .tc _ _ _).write (Elt F) f w Finset.univ = w :=
  Memref.write_access_unit_zero_univ (Elt F) cc0_scratch1 hz2 _ f w
theorem stored_A2 (f w : (cc0_scratch2 : Ref sig .tc).ty.Contents (Elt F)) :
    ((Memref.whole cc0_scratch2).access (Rect.unit (s := S2048x512) ![0, 0] S2048x512.size inb_S2048x512_S2048x512_0_0) : View sig .tc _ _ _).write (Elt F) f w Finset.univ = w :=
  Memref.write_access_unit_zero_univ (Elt F) cc0_scratch2 hz2 _ f w
theorem stored_H4 (f w : (cc0_stg4_0 : Ref sig .tc).ty.Contents (Elt F)) :
    ((Memref.whole cc0_stg4_0).access (Rect.unit (s := S512x1024) ![0, 0] S512x1024.size inb_S512x1024_S512x1024_0_0) : View sig .tc _ _ _).write (Elt F) f w Finset.univ = w :=
  Memref.write_access_unit_zero_univ (Elt F) cc0_stg4_0 hz2 _ f w

/-- A matrix read, dropped to two axes and lifted again, is itself; it extends the filled part by one. -/
theorem fill_step (c : Dev nD) (G : (cc0_scratch0 : Ref sig .tc).ty.Contents (Elt F)) (n : ℕ) (o : Fin 3 → ℕ)
    (ho : ∀ a, o a + S1x512x1024.size a ≤ S8x512x1024.size a) (e0 : o 0 = n) (e1 : o 1 = 0) (e2 : o 2 = 0) :
    (expM.access (Rect.unit (s := S8x512x1024) o S1x512x1024.size ho) : View sig .tc _ _ _).write (Elt F) (fillTo G (mats m c) n) (mat m o ho c) Finset.univ
      = fillTo G (mats m c) (n + 1) := fillTo_store G (mats m c) n o ho e0 e1 e2 _ rfl
theorem mat_stg (c : Dev nD) (o : Fin 3 → ℕ) (ho : ∀ a, o a + S1x512x1024.size a ≤ S8x512x1024.size a) :
    (Memref.whole cc0_stg3_0).view.readAt (Elt F) (Rect.unit (s := S8x512x1024) o S1x512x1024.size ho).toLoadRect (mats m c) = mat m o ho c := rfl
theorem pay6_self (v : Vec F S1x512x1024 .bf16) : k0_pay6 v = v := by unfold k0_pay6; exact shapeCast_shapeCast _ _ _
theorem pay7_self (v : Vec F S1x512x1024 .bf16) : k0_pay7 v = v := by unfold k0_pay7; exact shapeCast_shapeCast _ _ _
theorem pay8_self (v : Vec F S1x512x1024 .bf16) : k0_pay8 v = v := by unfold k0_pay8; exact shapeCast_shapeCast _ _ _
theorem pay9_self (v : Vec F S1x512x1024 .bf16) : k0_pay9 v = v := by unfold k0_pay9; exact shapeCast_shapeCast _ _ _
theorem pay10_self (v : Vec F S1x512x1024 .bf16) : k0_pay10 v = v := by unfold k0_pay10; exact shapeCast_shapeCast _ _ _
theorem pay11_self (v : Vec F S1x512x1024 .bf16) : k0_pay11 v = v := by unfold k0_pay11; exact shapeCast_shapeCast _ _ _
theorem pay12_self (v : Vec F S1x512x1024 .bf16) : k0_pay12 v = v := by unfold k0_pay12; exact shapeCast_shapeCast _ _ _
theorem pay13_self (v : Vec F S1x512x1024 .bf16) : k0_pay13 v = v := by unfold k0_pay13; exact shapeCast_shapeCast _ _ _

/-- The entry: both signals, the wait, the first loads. -/
theorem part1 (c : Dev nD)  {Q : (Σ' (d0 : Dev nD) (v2 : BitVec 32) (v7 : BitVec 32) (v14 : FVec F S2048x512 .bf16) (v26 : FVec F S2048x32 .f32) (v27 : IVec S2048x32 32), IVec S2048x32 1) → sProp 𝕄} :
    iprop(cellInv ER (xchg m) (K (prv c, 0)) (barC (prv c))
        ∗ cellInv ER (xchg m) (K (nxt c, 0)) (barC (nxt c))
        ∗ cellInv ER (xchg m) (K (c, 0)) (barC c)
        ∗ levAts L lv
        ∗ reached ER (barC (prv c)) 0
        ∗ reached ER (barC (nxt c)) 0
        ∗ owing c (O₀ c)
        ∗ dutyTok ER (barC (prv c)) 0 true
        ∗ dutyTok ER (barC (nxt c)) 0 false
        ∗ cred (tallyAt (barC c) () 2)
        ∗ atPos ER (barC c) 0 ∅ 0
        ∗ ((∃ X, slot0 c X) ∗ (∃ X, slot1 c X) ∗ (∃ X, slot2 c X) ∗ reached ER (rC0 c) 0 ∗ reached ER (rC1 c) 0 ∗ reached ER (rC2 c) 0)
        ∗ holds c cc0_stg0_0 (xin m c)
        ∗ holds c cc0_stg1_0 (rwin m c)
        ∗ holds c cc0_stg2_0 (riin m c))
      ⊢ iprop((iprop(owing c (OR0 c)
        ∗ atPos ER (barC c) 1 ∅ 0
        ∗ barPay c
        ∗ holds c cc0_stg0_0 (xin m c)
        ∗ holds c cc0_stg1_0 (rwin m c)
        ∗ holds c cc0_stg2_0 (riin m c)) -∗ Q ⟨c, me c, Scalar.remsi (Scalar.addi (me c) 1#32) 4#32, k0_pay1 (ldX m c), k0_pay2 (ldX m c) (ldR m c), iota .tc S2048x32 32 [1] iota_S2048x32_d1_w32, k0_pay3 (ldI0 m c)⟩)
          -∗ run c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 ) Q) := by
  rw [k0_part1_eq_skeleton]; unfold k0_part1_skel
  simp only [semSignalWord, semWaitWord, Prog.lift, Prog.bind_op, Prog.bind_ret, Prog.pure_eq_ret, wp_deviceId]
  iintro ⟨#HIP, #HIN, #HI, #Hlev, #HrP, #HrN, HO, HtP, HtN, Hc, Hat, Hs, H0, H1, H2⟩ Hk
  iapply (signal_left m K c _ (dev1_eq c)) $$ [HO HtP Hs]
  · isplitr; · iexact HIP
    isplitl [HO]; · iexact HO
    isplitl [HtP]; · iexact HtP
    isplitr; · iexact HrP
    iexact Hs
  iintro HO
  iapply (signal_right m K c _ (dev2_eq c)) $$ [HO HtN]
  · isplitr; · iexact HIN
    isplitl [HO]; · iexact HO
    isplitl [HtN]; · iexact HtN
    iexact HrN
  iintro HO
  iapply (wait_bar m K c) $$ [HO Hc Hat]
  · isplitr; · iexact HI
    isplitl [Hc]; · iexact Hc
    isplitl [HO]; · iexact HO
    isplitl [Hat]; · iexact Hat
    iexact Hlev
  iintro ⟨HO, Hat, Hp⟩
  iapply (wp_load 𝒱₀ (c : Thread nD τ) none Set.univ (m := Memref.whole cc0_stg0_0) (Finset.subset_univ _)) $$ H0; iintro H0
  iapply (wp_load 𝒱₀ (c : Thread nD τ) none Set.univ (m := Memref.whole cc0_stg1_0) (Finset.subset_univ _)) $$ H1; iintro H1
  iapply (wp_load 𝒱₀ (c : Thread nD τ) none Set.univ (m := Memref.whole cc0_stg2_0) (Finset.subset_univ _)) $$ H2; iintro H2
  unfold ldX ldR ldI0
  rw [wp_ret]; imodintro
  iapply Hk
  isplitl [HO]; · iexact HO
  isplitl [Hat]; · iexact Hat
  isplitl [Hp]; · iexact Hp
  isplitl [H0]; · iexact H0
  isplitl [H1]; · iexact H1
  iexact H2

/-- The gate weights and the tokens stored, the first expert matrix copied. -/
theorem part2 (c : Dev nD) (v14 : FVec F S2048x512 .bf16) (v26 : FVec F S2048x32 .f32) (v27 : IVec S2048x32 32) (v31 : IVec S2048x32 1) (G : (cc0_scratch0 : Ref sig .tc).ty.Contents (Elt F)) (f1 : (cc0_scratch1 : Ref sig .tc).ty.Contents (Elt F)) (f2 : (cc0_scratch2 : Ref sig .tc).ty.Contents (Elt F)) {Q : (FVec F S1x512x1024 .bf16) → sProp 𝕄} :
    iprop(holds c cc0_stg2_0 (riin m c)
        ∗ holds c cc0_scratch1 (f1)
        ∗ holds c cc0_scratch2 (f2)
        ∗ holds c cc0_stg3_0 (mats m c)
        ∗ holds c cc0_scratch0 (fillTo G (mats m c) 0))
      ⊢ iprop((iprop(holds c cc0_stg2_0 (riin m c)
        ∗ holds c cc0_scratch1 (k0_pay4 v26 v27 v31 (ldI1 m c))
        ∗ holds c cc0_scratch2 (k0_pay5 v14)
        ∗ holds c cc0_stg3_0 (mats m c)
        ∗ holds c cc0_scratch0 (fillTo G (mats m c) 1)) -∗ Q (mat1 m c))
          -∗ run c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v14 v26 v27 v31) Q) := by
  rw [k0_part2_eq_skeleton]; unfold k0_part2_skel
  simp only [semSignalWord, semWaitWord, Prog.lift, Prog.bind_op, Prog.bind_ret, Prog.pure_eq_ret, wp_deviceId]
  iintro ⟨H2, A1, A2, H3, A0⟩ Hk
  iapply (wp_load 𝒱₀ (c : Thread nD τ) none Set.univ (m := Memref.whole cc0_stg2_0) (Finset.subset_univ _)) $$ H2; iintro H2
  iapply (wp_load 𝒱₀ (c : Thread nD τ) none Set.univ (m := Memref.whole cc0_scratch1) (Finset.subset_univ _)) $$ A1; iintro A1
  iapply (wp_store 𝒱₀ (c : Thread nD τ) none Set.univ (m := Memref.whole cc0_scratch1) (r := Rect.unit (s := S2048x32) ![0, 0] S2048x32.size inb_S2048x32_S2048x32_0_0) (Mk := Finset.univ) (Finset.subset_univ _)) $$ A1; iintro A1
  rw [stored_A1]
  iapply (wp_load 𝒱₀ (c : Thread nD τ) none Set.univ (m := Memref.whole cc0_scratch2) (Finset.subset_univ _)) $$ A2; iintro A2
  iapply (wp_store 𝒱₀ (c : Thread nD τ) none Set.univ (m := Memref.whole cc0_scratch2) (r := Rect.unit (s := S2048x512) ![0, 0] S2048x512.size inb_S2048x512_S2048x512_0_0) (Mk := Finset.univ) (Finset.subset_univ _)) $$ A2; iintro A2
  rw [stored_A2]
  iapply (wp_load 𝒱₀ (c : Thread nD τ) none Set.univ (m := Memref.whole cc0_stg3_0) (Finset.subset_univ _)) $$ H3; iintro H3
  iapply (wp_load 𝒱₀ (c : Thread nD τ) none Set.univ (m := Memref.whole cc0_scratch0) (Finset.subset_univ _)) $$ A0; iintro A0
  iapply (wp_store 𝒱₀ (c : Thread nD τ) none Set.univ (m := Memref.whole cc0_scratch0) (r := Rect.unit (s := S8x512x1024) ![0, 0, 0] S1x512x1024.size inb_S8x512x1024_S1x512x1024_0_0_0) (Mk := Finset.univ) (Finset.subset_univ _)) $$ A0; iintro A0
  rw [mat_stg m c ![0, 0, 0] inb_S8x512x1024_S1x512x1024_0_0_0, pay6_self]
  rw [fill_step m c G 0 ![0, 0, 0] inb_S8x512x1024_S1x512x1024_0_0_0 rfl rfl rfl]
  iapply (wp_load 𝒱₀ (c : Thread nD τ) none Set.univ (m := Memref.whole cc0_stg3_0) (Finset.subset_univ _)) $$ H3; iintro H3
  iapply (wp_load 𝒱₀ (c : Thread nD τ) none Set.univ (m := Memref.whole cc0_scratch0) (Finset.subset_univ _)) $$ A0; iintro A0
  unfold ldI1
  rw [mat_stg m c ![1, 0, 0] inb_S8x512x1024_S1x512x1024_1_0_0, pay7_self]
  rw [wp_ret]; imodintro
  iapply Hk
  isplitl [H2]; · iexact H2
  isplitl [A1]; · iexact A1
  isplitl [A2]; · iexact A2
  isplitl [H3]; · iexact H3
  iexact A0

/-- Expert matrices 1 to 5 copied. -/
theorem part3 (c : Dev nD) (G : (cc0_scratch0 : Ref sig .tc).ty.Contents (Elt F)) {Q : (FVec F S1x512x1024 .bf16) → sProp 𝕄} :
    iprop(holds c cc0_stg3_0 (mats m c)
        ∗ holds c cc0_scratch0 (fillTo G (mats m c) 1))
      ⊢ iprop((iprop(holds c cc0_stg3_0 (mats m c)
        ∗ holds c cc0_scratch0 (fillTo G (mats m c) 6)) -∗ Q (mat6 m c))
          -∗ run c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (mat1 m c)) Q) := by
  rw [k0_part3_eq_skeleton]; unfold k0_part3_skel
  simp only [semSignalWord, semWaitWord, Prog.lift, Prog.bind_op, Prog.bind_ret, Prog.pure_eq_ret, wp_deviceId]
  iintro ⟨H3, A0⟩ Hk
  iapply (wp_store 𝒱₀ (c : Thread nD τ) none Set.univ (m := Memref.whole cc0_scratch0) (r := Rect.unit (s := S8x512x1024) ![1, 0, 0] S1x512x1024.size inb_S8x512x1024_S1x512x1024_1_0_0) (Mk := Finset.univ) (Finset.subset_univ _)) $$ A0; iintro A0
  rw [fill_step m c G 1 ![1, 0, 0] inb_S8x512x1024_S1x512x1024_1_0_0 rfl rfl rfl]
  iapply (wp_load 𝒱₀ (c : Thread nD τ) none Set.univ (m := Memref.whole cc0_stg3_0) (Finset.subset_univ _)) $$ H3; iintro H3
  iapply (wp_load 𝒱₀ (c : Thread nD τ) none Set.univ (m := Memref.whole cc0_scratch0) (Finset.subset_univ _)) $$ A0; iintro A0
  iapply (wp_store 𝒱₀ (c : Thread nD τ) none Set.univ (m := Memref.whole cc0_scratch0) (r := Rect.unit (s := S8x512x1024) ![2, 0, 0] S1x512x1024.size inb_S8x512x1024_S1x512x1024_2_0_0) (Mk := Finset.univ) (Finset.subset_univ _)) $$ A0; iintro A0
  rw [mat_stg m c ![2, 0, 0] inb_S8x512x1024_S1x512x1024_2_0_0, pay8_self]
  rw [fill_step m c G 2 ![2, 0, 0] inb_S8x512x1024_S1x512x1024_2_0_0 rfl rfl rfl]
  iapply (wp_load 𝒱₀ (c : Thread nD τ) none Set.univ (m := Memref.whole cc0_stg3_0) (Finset.subset_univ _)) $$ H3; iintro H3
  iapply (wp_load 𝒱₀ (c : Thread nD τ) none Set.univ (m := Memref.whole cc0_scratch0) (Finset.subset_univ _)) $$ A0; iintro A0
  iapply (wp_store 𝒱₀ (c : Thread nD τ) none Set.univ (m := Memref.whole cc0_scratch0) (r := Rect.unit (s := S8x512x1024) ![3, 0, 0] S1x512x1024.size inb_S8x512x1024_S1x512x1024_3_0_0) (Mk := Finset.univ) (Finset.subset_univ _)) $$ A0; iintro A0
  rw [mat_stg m c ![3, 0, 0] inb_S8x512x1024_S1x512x1024_3_0_0, pay9_self]
  rw [fill_step m c G 3 ![3, 0, 0] inb_S8x512x1024_S1x512x1024_3_0_0 rfl rfl rfl]
  iapply (wp_load 𝒱₀ (c : Thread nD τ) none Set.univ (m := Memref.whole cc0_stg3_0) (Finset.subset_univ _)) $$ H3; iintro H3
  iapply (wp_load 𝒱₀ (c : Thread nD τ) none Set.univ (m := Memref.whole cc0_scratch0) (Finset.subset_univ _)) $$ A0; iintro A0
  iapply (wp_store 𝒱₀ (c : Thread nD τ) none Set.univ (m := Memref.whole cc0_scratch0) (r := Rect.unit (s := S8x512x1024) ![4, 0, 0] S1x512x1024.size inb_S8x512x1024_S1x512x1024_4_0_0) (Mk := Finset.univ) (Finset.subset_univ _)) $$ A0; iintro A0
  rw [mat_stg m c ![4, 0, 0] inb_S8x512x1024_S1x512x1024_4_0_0, pay10_self]
  rw [fill_step m c G 4 ![4, 0, 0] inb_S8x512x1024_S1x512x1024_4_0_0 rfl rfl rfl]
  iapply (wp_load 𝒱₀ (c : Thread nD τ) none Set.univ (m := Memref.whole cc0_stg3_0) (Finset.subset_univ _)) $$ H3; iintro H3
  iapply (wp_load 𝒱₀ (c : Thread nD τ) none Set.univ (m := Memref.whole cc0_scratch0) (Finset.subset_univ _)) $$ A0; iintro A0
  iapply (wp_store 𝒱₀ (c : Thread nD τ) none Set.univ (m := Memref.whole cc0_scratch0) (r := Rect.unit (s := S8x512x1024) ![5, 0, 0] S1x512x1024.size inb_S8x512x1024_S1x512x1024_5_0_0) (Mk := Finset.univ) (Finset.subset_univ _)) $$ A0; iintro A0
  rw [mat_stg m c ![5, 0, 0] inb_S8x512x1024_S1x512x1024_5_0_0, pay11_self]
  rw [fill_step m c G 5 ![5, 0, 0] inb_S8x512x1024_S1x512x1024_5_0_0 rfl rfl rfl]
  iapply (wp_load 𝒱₀ (c : Thread nD τ) none Set.univ (m := Memref.whole cc0_stg3_0) (Finset.subset_univ _)) $$ H3; iintro H3
  iapply (wp_load 𝒱₀ (c : Thread nD τ) none Set.univ (m := Memref.whole cc0_scratch0) (Finset.subset_univ _)) $$ A0; iintro A0
  rw [mat_stg m c ![6, 0, 0] inb_S8x512x1024_S1x512x1024_6_0_0, pay12_self]
  rw [wp_ret]; imodintro
  iapply Hk
  isplitl [H3]; · iexact H3
  iexact A0

/-- The last two matrices copied, the first partial product begun. -/
theorem part4 (c : Dev nD) (v2 : BitVec 32) (G : (cc0_scratch0 : Ref sig .tc).ty.Contents (Elt F)) {Q : (Σ' (v96 : IVec S512x32 32) (v102 : Vec F S512x32 .f32) (v104 : Vec F S512x512 .bf16) (v119 : FVec F S512x1024 .f32) (v123 : IVec S512x32 1), FVec F S512x32 .f32) → sProp 𝕄} :
    iprop(holds c cc0_stg3_0 (mats m c)
        ∗ holds c cc0_scratch0 (fillTo G (mats m c) 6)
        ∗ holds c cc0_scratch1 (gates m c)
        ∗ holds c cc0_scratch2 (toks m c))
      ⊢ iprop((iprop(holds c cc0_stg3_0 (mats m c)
        ∗ holds c cc0_scratch0 (mats m c)
        ∗ holds c cc0_scratch1 (gates m c)
        ∗ holds c cc0_scratch2 (toks m c)) -∗ Q ⟨io, wAt m c (k0_off1 c) (k0_off1_inb c), xAt m c (k0_off2 c) (k0_off2_inb c), k0_pay14 v2 (wAt m c (k0_off1 c) (k0_off1_inb c)) (xAt m c (k0_off2 c) (k0_off2_inb c)) (mat0 m c), k0_pay15 v2, k0_pay16 (F := F)⟩)
          -∗ run c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 (mat6 m c)) Q) := by
  rw [k0_part4_eq_skeleton]; unfold k0_part4_skel
  simp only [semSignalWord, semWaitWord, Prog.lift, Prog.bind_op, Prog.bind_ret, Prog.pure_eq_ret, wp_deviceId]
  iintro ⟨H3, A0, A1, A2⟩ Hk
  iapply (wp_store 𝒱₀ (c : Thread nD τ) none Set.univ (m := Memref.whole cc0_scratch0) (r := Rect.unit (s := S8x512x1024) ![6, 0, 0] S1x512x1024.size inb_S8x512x1024_S1x512x1024_6_0_0) (Mk := Finset.univ) (Finset.subset_univ _)) $$ A0; iintro A0
  rw [fill_step m c G 6 ![6, 0, 0] inb_S8x512x1024_S1x512x1024_6_0_0 rfl rfl rfl]
  iapply (wp_load 𝒱₀ (c : Thread nD τ) none Set.univ (m := Memref.whole cc0_stg3_0) (Finset.subset_univ _)) $$ H3; iintro H3
  iapply (wp_load 𝒱₀ (c : Thread nD τ) none Set.univ (m := Memref.whole cc0_scratch0) (Finset.subset_univ _)) $$ A0; iintro A0
  iapply (wp_store 𝒱₀ (c : Thread nD τ) none Set.univ (m := Memref.whole cc0_scratch0) (r := Rect.unit (s := S8x512x1024) ![7, 0, 0] S1x512x1024.size inb_S8x512x1024_S1x512x1024_7_0_0) (Mk := Finset.univ) (Finset.subset_univ _)) $$ A0; iintro A0
  rw [mat_stg m c ![7, 0, 0] inb_S8x512x1024_S1x512x1024_7_0_0, pay13_self]
  rw [fill_step m c G 7 ![7, 0, 0] inb_S8x512x1024_S1x512x1024_7_0_0 rfl rfl rfl]
  rw [show fillTo G (mats m c) (7 + 1) = mats m c from fillTo_all G (mats m c)]
  iapply (wp_load 𝒱₀ (c : Thread nD τ) none Set.univ (m := Memref.whole cc0_scratch1) (Finset.subset_univ _)) $$ A1; iintro A1
  iapply (wp_load 𝒱₀ (c : Thread nD τ) none Set.univ (m := Memref.whole cc0_scratch2) (Finset.subset_univ _)) $$ A2; iintro A2
  iapply (wp_load 𝒱₀ (c : Thread nD τ) none Set.univ (m := Memref.whole cc0_scratch0) (Finset.subset_univ _)) $$ A0; iintro A0
  rw [wp_ret]; imodintro
  iapply Hk
  isplitl [H3]; · iexact H3
  isplitl [A0]; · iexact A0
  isplitl [A1]; · iexact A1
  iexact A2

/-- A partial product continued. -/
theorem part5 (c : Dev nD) (v2 : BitVec 32) (v96 : IVec S512x32 32) (v102 : Vec F S512x32 .f32) (v104 : Vec F S512x512 .bf16) (v119 : FVec F S512x1024 .f32) (v123 : IVec S512x32 1) (v124 : FVec F S512x32 .f32)  {Q : (Σ' (v161 : FVec F S512x1024 .f32), BitVec 32) → sProp 𝕄} :
    iprop(holds c cc0_scratch0 (mats m c))
      ⊢ iprop((iprop(holds c cc0_scratch0 (mats m c)) -∗ Q ⟨k0_pay17 v2 v96 v102 v104 v119 v123 v124 (mat1 m c) (mat2 m c) (mat3 m c), Scalar.muli v2 8#32⟩)
          -∗ run c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v2 v96 v102 v104 v119 v123 v124) Q) := by
  rw [k0_part5_eq_skeleton]; unfold k0_part5_skel
  simp only [semSignalWord, semWaitWord, Prog.lift, Prog.bind_op, Prog.bind_ret, Prog.pure_eq_ret, wp_deviceId]
  iintro A0 Hk
  iapply (wp_load 𝒱₀ (c : Thread nD τ) none Set.univ (m := Memref.whole cc0_scratch0) (Finset.subset_univ _)) $$ A0; iintro A0
  iapply (wp_load 𝒱₀ (c : Thread nD τ) none Set.univ (m := Memref.whole cc0_scratch0) (Finset.subset_univ _)) $$ A0; iintro A0
  iapply (wp_load 𝒱₀ (c : Thread nD τ) none Set.univ (m := Memref.whole cc0_scratch0) (Finset.subset_univ _)) $$ A0; iintro A0
  rw [wp_ret]; imodintro
  iapply Hk
  iexact A0

/-- A partial product continued. -/
theorem part6 (c : Dev nD) (v2 : BitVec 32) (v96 : IVec S512x32 32) (v102 : Vec F S512x32 .f32) (v104 : Vec F S512x512 .bf16) (v161 : FVec F S512x1024 .f32) (v162 : BitVec 32)  {Q : (Σ' (v189 : FVec F S512x1024 .f32) (v197 : FVec F S512x1 .f32) (v199 : FVec F S512x1024 .bf16), FVec F S512x1024 .f32) → sProp 𝕄} :
    iprop(holds c cc0_scratch0 (mats m c))
      ⊢ iprop((iprop(holds c cc0_scratch0 (mats m c)) -∗ Q ⟨k0_pay18 v2 v96 v102 v104 v161 v162 (mat4 m c) (mat5 m c), k0_pay19 v2 v96 v102, k0_pay20 (mat6 m c), constant S512x1024 .f32 0x00000000#32⟩)
          -∗ run c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v2 v96 v102 v104 v161 v162) Q) := by
  rw [k0_part6_eq_skeleton]; unfold k0_part6_skel
  simp only [semSignalWord, semWaitWord, Prog.lift, Prog.bind_op, Prog.bind_ret, Prog.pure_eq_ret, wp_deviceId]
  iintro A0 Hk
  iapply (wp_load 𝒱₀ (c : Thread nD τ) none Set.univ (m := Memref.whole cc0_scratch0) (Finset.subset_univ _)) $$ A0; iintro A0
  iapply (wp_load 𝒱₀ (c : Thread nD τ) none Set.univ (m := Memref.whole cc0_scratch0) (Finset.subset_univ _)) $$ A0; iintro A0
  iapply (wp_load 𝒱₀ (c : Thread nD τ) none Set.univ (m := Memref.whole cc0_scratch0) (Finset.subset_univ _)) $$ A0; iintro A0
  rw [wp_ret]; imodintro
  iapply Hk
  iexact A0

/-- The first partial product stored, the first hop started. -/
theorem part7 (c : Dev nD) (v2 : BitVec 32) (v7 : BitVec 32) (v96 : IVec S512x32 32) (v102 : Vec F S512x32 .f32) (v104 : Vec F S512x512 .bf16) (v189 : FVec F S512x1024 .f32) (v197 : FVec F S512x1 .f32) (v199 : FVec F S512x1024 .bf16) (cst_126 : FVec F S512x1024 .f32) (hX : k0_pay21 v2 v96 v102 v104 v189 v197 v199 cst_126 (mat7 m c) = held0 m c) {Q : (Σ' (v233 : BitVec 32), BitVec 32) → sProp 𝕄} :
    iprop(holds c cc0_scratch0 (mats m c)
        ∗ (∃ X, slot3 c X)
        ∗ cellInv ER (xchg m) (K (c, 1)) (sC0 c)
        ∗ cellInv ER (xchg m) (K (nxt c, 4)) (rC0 (nxt c))
        ∗ reached ER (sC0 c) 0
        ∗ reached ER (rC0 (nxt c)) 0
        ∗ owing c (OR0 c)
        ∗ dutyTok ER (sC0 c) 0 false
        ∗ dutyTok ER (rC0 (nxt c)) 0 false
        ∗ (∃ Y, slot0 (nxt c) Y))
      ⊢ iprop((iprop(holds c cc0_scratch0 (mats m c)
        ∗ cred (tallyAt (sC0 c) () N)
        ∗ owing c (OR1 c)) -∗ Q ⟨Scalar.subi (Scalar.subi v2 2#32) 0#32, 8#32⟩)
          -∗ run c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v7 v96 v102 v104 v189 v197 v199 cst_126) Q) := by
  rw [k0_part7_eq_skeleton]; unfold k0_part7_skel
  simp only [semSignalWord, semWaitWord, Prog.lift, Prog.bind_op, Prog.bind_ret, Prog.pure_eq_ret, wp_deviceId]
  iintro ⟨A0, Hs, #HIs, #HIr, #Hrs, #Hrr, HO, Hts, Htr, Hd⟩ Hk
  iapply (wp_load 𝒱₀ (c : Thread nD τ) none Set.univ (m := Memref.whole cc0_scratch0) (Finset.subset_univ _)) $$ A0; iintro A0
  icases Hs with ⟨%X, Hs⟩
  iapply (slot_load o3 inb_S4x512x1024_S1x512x1024_3_0_0 c X) $$ Hs; iintro Hs
  iapply (slot_store o3 inb_S4x512x1024_S1x512x1024_3_0_0 c X _) $$ Hs; iintro Hs
  rw [show k0_pay21 v2 v96 v102 v104 v189 v197 v199 cst_126 (mat7 m c) = held0 m c from hX]
  unfold OR0
  iapply (send_slot m c _ (dev3_eq c) 0 3 sS0 rS0 rfl rfl (K (c, 1)) (K (nxt c, 4)) o3 o0 inb_S4x512x1024_S1x512x1024_3_0_0 inb_S4x512x1024_S1x512x1024_0_0_0 (held0 m c) (OR1 c)
    (payload_sS0 m c false) ((payload_rS0 m (nxt c) false).trans (by unfold pay_rS0; rw [prv_nxt]))) $$ [Hs Hd HO Hts Htr]
  · isplitr; · iexact HIs
    isplitr; · iexact HIr
    isplitl [Hs]; · iexact Hs
    isplitl [Hd]; · iexact Hd
    isplitl [HO]; · iexact HO
    isplitl [Hts]; · iexact Hts
    isplitr; · iexact Hrs
    isplitl [Htr]; · iexact Htr
    iexact Hrr
  iintro ⟨Hcs, HO⟩
  unfold run
  rw [wp_ret]; imodintro
  iapply Hk
  isplitl [A0]; · iexact A0
  isplitl [Hcs]; · iexact Hcs
  iexact HO

/-- The second partial product begun. -/
theorem part8 (c : Dev nD) (v2 : BitVec 32) (v96 : IVec S512x32 32) (v233 : BitVec 32) (c8_i32_149 : BitVec 32)  {Q : (Σ' (v238 : Vec F S512x32 .f32) (v240 : Vec F S512x512 .bf16) (v269 : FVec F S512x1024 .f32) (v270 : BitVec 32), BitVec 32) → sProp 𝕄} :
    iprop(holds c cc0_scratch0 (mats m c)
        ∗ holds c cc0_scratch1 (gates m c)
        ∗ holds c cc0_scratch2 (toks m c))
      ⊢ iprop((iprop(holds c cc0_scratch0 (mats m c)
        ∗ holds c cc0_scratch1 (gates m c)
        ∗ holds c cc0_scratch2 (toks m c)) -∗ Q ⟨(wAt m c (k0_off3 c 0#32) (k0_off3_inb c 0)), (xAt m c (k0_off4 c 0#32) (k0_off4_inb c 0)), k0_pay22 v2 v96 (wAt m c (k0_off3 c 0#32) (k0_off3_inb c 0)) (xAt m c (k0_off4 c 0#32) (k0_off4_inb c 0)) (mat0 m c) (mat1 m c), Scalar.muli v2 8#32, 2#32⟩)
          -∗ run c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v96 v233 c8_i32_149) Q) := by
  rw [k0_part8_eq_skeleton]; unfold k0_part8_skel
  simp only [semSignalWord, semWaitWord, Prog.lift, Prog.bind_op, Prog.bind_ret, Prog.pure_eq_ret, wp_deviceId]
  iintro ⟨A0, A1, A2⟩ Hk
  iapply (wp_load 𝒱₀ (c : Thread nD τ) none Set.univ (m := Memref.whole cc0_scratch1) (Finset.subset_univ _)) $$ A1; iintro A1
  iapply (wp_load 𝒱₀ (c : Thread nD τ) none Set.univ (m := Memref.whole cc0_scratch2) (Finset.subset_univ _)) $$ A2; iintro A2
  iapply (wp_load 𝒱₀ (c : Thread nD τ) none Set.univ (m := Memref.whole cc0_scratch0) (Finset.subset_univ _)) $$ A0; iintro A0
  iapply (wp_load 𝒱₀ (c : Thread nD τ) none Set.univ (m := Memref.whole cc0_scratch0) (Finset.subset_univ _)) $$ A0; iintro A0
  rw [wp_ret]; imodintro
  iapply Hk
  isplitl [A0]; · iexact A0
  isplitl [A1]; · iexact A1
  iexact A2

/-- A partial product continued. -/
theorem part9 (c : Dev nD) (v2 : BitVec 32) (v96 : IVec S512x32 32) (v238 : Vec F S512x32 .f32) (v240 : Vec F S512x512 .bf16) (v269 : FVec F S512x1024 .f32) (v270 : BitVec 32) (c2_i32_172 : BitVec 32)  {Q : (Σ' (v297 : FVec F S512x1024 .f32) (v305 : FVec F S512x1 .f32), FVec F S512x1024 .f32) → sProp 𝕄} :
    iprop(holds c cc0_scratch0 (mats m c))
      ⊢ iprop((iprop(holds c cc0_scratch0 (mats m c)) -∗ Q ⟨k0_pay23 v2 v96 v238 v240 v269 v270 c2_i32_172 (mat2 m c) (mat3 m c), k0_pay24 v2 v96 v238, k0_pay25 v240 (mat4 m c)⟩)
          -∗ run c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v2 v96 v238 v240 v269 v270 c2_i32_172) Q) := by
  rw [k0_part9_eq_skeleton]; unfold k0_part9_skel
  simp only [semSignalWord, semWaitWord, Prog.lift, Prog.bind_op, Prog.bind_ret, Prog.pure_eq_ret, wp_deviceId]
  iintro A0 Hk
  iapply (wp_load 𝒱₀ (c : Thread nD τ) none Set.univ (m := Memref.whole cc0_scratch0) (Finset.subset_univ _)) $$ A0; iintro A0
  iapply (wp_load 𝒱₀ (c : Thread nD τ) none Set.univ (m := Memref.whole cc0_scratch0) (Finset.subset_univ _)) $$ A0; iintro A0
  iapply (wp_load 𝒱₀ (c : Thread nD τ) none Set.univ (m := Memref.whole cc0_scratch0) (Finset.subset_univ _)) $$ A0; iintro A0
  rw [wp_ret]; imodintro
  iapply Hk
  iexact A0

/-- A partial product continued. -/
theorem part10 (c : Dev nD) (v2 : BitVec 32) (v96 : IVec S512x32 32) (v238 : Vec F S512x32 .f32) (v240 : Vec F S512x512 .bf16) (v297 : FVec F S512x1024 .f32) (v305 : FVec F S512x1 .f32) (v308 : FVec F S512x1024 .f32)  {Q : (Σ' (v339 : FVec F S512x1024 .f32), FVec F S512x1 .f32) → sProp 𝕄} :
    iprop(holds c cc0_scratch0 (mats m c))
      ⊢ iprop((iprop(holds c cc0_scratch0 (mats m c)) -∗ Q ⟨k0_pay26 v2 v96 v238 v240 v297 v305 v308 (mat5 m c) (mat6 m c), k0_pay27 v2 v96 v238⟩)
          -∗ run c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v2 v96 v238 v240 v297 v305 v308) Q) := by
  rw [k0_part10_eq_skeleton]; unfold k0_part10_skel
  simp only [semSignalWord, semWaitWord, Prog.lift, Prog.bind_op, Prog.bind_ret, Prog.pure_eq_ret, wp_deviceId]
  iintro A0 Hk
  iapply (wp_load 𝒱₀ (c : Thread nD τ) none Set.univ (m := Memref.whole cc0_scratch0) (Finset.subset_univ _)) $$ A0; iintro A0
  iapply (wp_load 𝒱₀ (c : Thread nD τ) none Set.univ (m := Memref.whole cc0_scratch0) (Finset.subset_univ _)) $$ A0; iintro A0
  rw [wp_ret]; imodintro
  iapply Hk
  iexact A0

/-- The first hop received, the second partial product added. -/
theorem part11 (c : Dev nD) (v7 : BitVec 32) (v240 : Vec F S512x512 .bf16) (v339 : FVec F S512x1024 .f32) (v347 : FVec F S512x1 .f32) (hX : k0_pay28 v240 v339 v347 (mat7 m c) (held0 m (prv c)) = held1 m c) {Q : (PUnit) → sProp 𝕄} :
    iprop(holds c cc0_scratch0 (mats m c)
        ∗ cellInv ER (xchg m) (K (c, 4)) (rC0 c)
        ∗ levAts L lv
        ∗ cred (tallyAt (rC0 c) () N)
        ∗ owing c (OR1 c)
        ∗ atPos ER (rC0 c) 0 ∅ 0)
      ⊢ iprop((iprop(holds c cc0_scratch0 (mats m c)
        ∗ owing c (OR1 c)
        ∗ atPos ER (rC0 c) 1 ∅ 0
        ∗ slot0 c (held1 m c)) -∗ Q ⟨⟩)
          -∗ run c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v7 v240 v339 v347) Q) := by
  rw [k0_part11_eq_skeleton]; unfold k0_part11_skel
  simp only [semSignalWord, semWaitWord, Prog.lift, Prog.bind_op, Prog.bind_ret, Prog.pure_eq_ret, wp_deviceId]
  iintro ⟨A0, #HIr, #Hlev, Hc, HO, Hat⟩ Hk
  iapply (wp_load 𝒱₀ (c : Thread nD τ) none Set.univ (m := Memref.whole cc0_scratch0) (Finset.subset_univ _)) $$ A0; iintro A0
  iapply (wait_slot m c 3 rS0 rfl (K (c, 4)) o3 o0 inb_S4x512x1024_S1x512x1024_3_0_0 inb_S4x512x1024_S1x512x1024_0_0_0 (OR1 c) (mayWait_r0 c) (payload_rS0 m c false)) $$ [Hc HO Hat]
  · isplitr; · iexact HIr
    isplitl [Hc]; · iexact Hc
    isplitl [HO]; · iexact HO
    isplitl [Hat]; · iexact Hat
    iexact Hlev
  iintro ⟨HO, Hat, Hs⟩
  unfold pay_rS0
  iapply (slot_load o0 inb_S4x512x1024_S1x512x1024_0_0_0 c (held0 m (prv c))) $$ Hs; iintro Hs
  iapply (slot_load o0 inb_S4x512x1024_S1x512x1024_0_0_0 c (held0 m (prv c))) $$ Hs; iintro Hs
  iapply (slot_store o0 inb_S4x512x1024_S1x512x1024_0_0_0 c (held0 m (prv c)) _) $$ Hs; iintro Hs
  rw [show k0_pay28 v240 v339 v347 (mat7 m c) (held0 m (prv c)) = held1 m c from hX]
  rw [wp_ret]; imodintro
  iapply Hk
  isplitl [A0]; · iexact A0
  isplitl [HO]; · iexact HO
  isplitl [Hat]; · iexact Hat
  iexact Hs

/-- The second hop started, the third partial product begun. -/
theorem part12 (c : Dev nD) (v2 : BitVec 32) (v96 : IVec S512x32 32)  {Q : (Σ' (v386 : Vec F S512x32 .f32) (v388 : Vec F S512x512 .bf16) (v403 : FVec F S512x1024 .f32) (v411 : FVec F S512x1 .f32), Vec F S1x512x1024 .bf16) → sProp 𝕄} :
    iprop(slot0 c (held1 m c)
        ∗ cellInv ER (xchg m) (K (c, 2)) (sC1 c)
        ∗ cellInv ER (xchg m) (K (nxt c, 5)) (rC1 (nxt c))
        ∗ reached ER (sC1 c) 0
        ∗ reached ER (rC1 (nxt c)) 0
        ∗ owing c (OR1 c)
        ∗ dutyTok ER (sC1 c) 0 false
        ∗ dutyTok ER (rC1 (nxt c)) 0 false
        ∗ (∃ Y, slot1 (nxt c) Y)
        ∗ holds c cc0_scratch0 (mats m c)
        ∗ holds c cc0_scratch1 (gates m c)
        ∗ holds c cc0_scratch2 (toks m c))
      ⊢ iprop((iprop(cred (tallyAt (sC1 c) () N)
        ∗ owing c (tallyAt (rC2 (nxt c)) () N)
        ∗ holds c cc0_scratch0 (mats m c)
        ∗ holds c cc0_scratch1 (gates m c)
        ∗ holds c cc0_scratch2 (toks m c)) -∗ Q ⟨(wAt m c (k0_off3 c 1#32) (k0_off3_inb c 1)), (xAt m c (k0_off4 c 1#32) (k0_off4_inb c 1)), k0_pay29 v2 v96 (wAt m c (k0_off3 c 1#32) (k0_off3_inb c 1)) (xAt m c (k0_off4 c 1#32) (k0_off4_inb c 1)) (mat0 m c), k0_pay30 v2 v96 (wAt m c (k0_off3 c 1#32) (k0_off3_inb c 1)), (mat1 m c)⟩)
          -∗ run c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v96) Q) := by
  rw [k0_part12_eq_skeleton]; unfold k0_part12_skel
  simp only [semSignalWord, semWaitWord, Prog.lift, Prog.bind_op, Prog.bind_ret, Prog.pure_eq_ret, wp_deviceId]
  iintro ⟨Hs, #HIs, #HIr, #Hrs, #Hrr, HO, Hts, Htr, Hd, A0, A1, A2⟩ Hk
  unfold OR1
  iapply (send_slot m c _ (dev4_eq c) 1 4 sS1 rS1 rfl rfl (K (c, 2)) (K (nxt c, 5)) o0 o1 inb_S4x512x1024_S1x512x1024_0_0_0 inb_S4x512x1024_S1x512x1024_1_0_0 (held1 m c) (tallyAt (rC2 (nxt c)) () N)
    (payload_sS1 m c false) ((payload_rS1 m (nxt c) false).trans (by unfold pay_rS1; rw [prv_nxt]))) $$ [Hs Hd HO Hts Htr]
  · isplitr; · iexact HIs
    isplitr; · iexact HIr
    isplitl [Hs]; · iexact Hs
    isplitl [Hd]; · iexact Hd
    isplitl [HO]; · iexact HO
    isplitl [Hts]; · iexact Hts
    isplitr; · iexact Hrs
    isplitl [Htr]; · iexact Htr
    iexact Hrr
  iintro ⟨Hcs, HO⟩
  iapply (wp_load 𝒱₀ (c : Thread nD τ) none Set.univ (m := Memref.whole cc0_scratch1) (Finset.subset_univ _)) $$ A1; iintro A1
  iapply (wp_load 𝒱₀ (c : Thread nD τ) none Set.univ (m := Memref.whole cc0_scratch2) (Finset.subset_univ _)) $$ A2; iintro A2
  iapply (wp_load 𝒱₀ (c : Thread nD τ) none Set.univ (m := Memref.whole cc0_scratch0) (Finset.subset_univ _)) $$ A0; iintro A0
  iapply (wp_load 𝒱₀ (c : Thread nD τ) none Set.univ (m := Memref.whole cc0_scratch0) (Finset.subset_univ _)) $$ A0; iintro A0
  rw [wp_ret]; imodintro
  iapply Hk
  isplitl [Hcs]; · iexact Hcs
  isplitl [HO]; · iexact HO
  isplitl [A0]; · iexact A0
  isplitl [A1]; · iexact A1
  iexact A2

/-- A partial product continued. -/
theorem part13 (c : Dev nD) (v2 : BitVec 32) (v96 : IVec S512x32 32) (v386 : Vec F S512x32 .f32) (v388 : Vec F S512x512 .bf16) (v403 : FVec F S512x1024 .f32) (v411 : FVec F S512x1 .f32) (v412 : Vec F S1x512x1024 .bf16)  {Q : (Σ' (v445 : FVec F S512x1024 .f32), Vec F S512x32 .f32) → sProp 𝕄} :
    iprop(holds c cc0_scratch0 (mats m c))
      ⊢ iprop((iprop(holds c cc0_scratch0 (mats m c)) -∗ Q ⟨k0_pay31 v2 v96 v386 v388 v403 v411 v412 (mat2 m c) (mat3 m c), k0_pay32 v2 v96 v386⟩)
          -∗ run c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v2 v96 v386 v388 v403 v411 v412) Q) := by
  rw [k0_part13_eq_skeleton]; unfold k0_part13_skel
  simp only [semSignalWord, semWaitWord, Prog.lift, Prog.bind_op, Prog.bind_ret, Prog.pure_eq_ret, wp_deviceId]
  iintro A0 Hk
  iapply (wp_load 𝒱₀ (c : Thread nD τ) none Set.univ (m := Memref.whole cc0_scratch0) (Finset.subset_univ _)) $$ A0; iintro A0
  iapply (wp_load 𝒱₀ (c : Thread nD τ) none Set.univ (m := Memref.whole cc0_scratch0) (Finset.subset_univ _)) $$ A0; iintro A0
  rw [wp_ret]; imodintro
  iapply Hk
  iexact A0

/-- A partial product continued. -/
theorem part14 (c : Dev nD) (v2 : BitVec 32) (v96 : IVec S512x32 32) (v386 : Vec F S512x32 .f32) (v388 : Vec F S512x512 .bf16) (v445 : FVec F S512x1024 .f32) (v451 : Vec F S512x32 .f32)  {Q : (Σ' (v487 : FVec F S512x1024 .f32), BitVec 32) → sProp 𝕄} :
    iprop(holds c cc0_scratch0 (mats m c))
      ⊢ iprop((iprop(holds c cc0_scratch0 (mats m c)) -∗ Q ⟨k0_pay33 v2 v96 v386 v388 v445 v451 (mat4 m c) (mat5 m c) (mat6 m c), Scalar.addi (Scalar.muli v2 8#32) 7#32⟩)
          -∗ run c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v2 v96 v386 v388 v445 v451) Q) := by
  rw [k0_part14_eq_skeleton]; unfold k0_part14_skel
  simp only [semSignalWord, semWaitWord, Prog.lift, Prog.bind_op, Prog.bind_ret, Prog.pure_eq_ret, wp_deviceId]
  iintro A0 Hk
  iapply (wp_load 𝒱₀ (c : Thread nD τ) none Set.univ (m := Memref.whole cc0_scratch0) (Finset.subset_univ _)) $$ A0; iintro A0
  iapply (wp_load 𝒱₀ (c : Thread nD τ) none Set.univ (m := Memref.whole cc0_scratch0) (Finset.subset_univ _)) $$ A0; iintro A0
  iapply (wp_load 𝒱₀ (c : Thread nD τ) none Set.univ (m := Memref.whole cc0_scratch0) (Finset.subset_univ _)) $$ A0; iintro A0
  rw [wp_ret]; imodintro
  iapply Hk
  iexact A0

/-- The second hop received, the third partial product added. -/
theorem part15 (c : Dev nD) (v7 : BitVec 32) (v96 : IVec S512x32 32) (v386 : Vec F S512x32 .f32) (v388 : Vec F S512x512 .bf16) (v487 : FVec F S512x1024 .f32) (v489 : BitVec 32) (hX : k0_pay34 v96 v386 v388 v487 v489 (mat7 m c) (held1 m (prv c)) = held2 m c) {Q : (PUnit) → sProp 𝕄} :
    iprop(holds c cc0_scratch0 (mats m c)
        ∗ cellInv ER (xchg m) (K (c, 5)) (rC1 c)
        ∗ levAts L lv
        ∗ cred (tallyAt (rC1 c) () N)
        ∗ owing c (tallyAt (rC2 (nxt c)) () N)
        ∗ atPos ER (rC1 c) 0 ∅ 0)
      ⊢ iprop((iprop(holds c cc0_scratch0 (mats m c)
        ∗ owing c (tallyAt (rC2 (nxt c)) () N)
        ∗ atPos ER (rC1 c) 1 ∅ 0
        ∗ slot1 c (held2 m c)) -∗ Q ⟨⟩)
          -∗ run c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v7 v96 v386 v388 v487 v489) Q) := by
  rw [k0_part15_eq_skeleton]; unfold k0_part15_skel
  simp only [semSignalWord, semWaitWord, Prog.lift, Prog.bind_op, Prog.bind_ret, Prog.pure_eq_ret, wp_deviceId]
  iintro ⟨A0, #HIr, #Hlev, Hc, HO, Hat⟩ Hk
  iapply (wp_load 𝒱₀ (c : Thread nD τ) none Set.univ (m := Memref.whole cc0_scratch0) (Finset.subset_univ _)) $$ A0; iintro A0
  iapply (wait_slot m c 4 rS1 rfl (K (c, 5)) o0 o1 inb_S4x512x1024_S1x512x1024_0_0_0 inb_S4x512x1024_S1x512x1024_1_0_0 (tallyAt (rC2 (nxt c)) () N) (mayWait_r1 c) (payload_rS1 m c false)) $$ [Hc HO Hat]
  · isplitr; · iexact HIr
    isplitl [Hc]; · iexact Hc
    isplitl [HO]; · iexact HO
    isplitl [Hat]; · iexact Hat
    iexact Hlev
  iintro ⟨HO, Hat, Hs⟩
  unfold pay_rS1
  iapply (slot_load o1 inb_S4x512x1024_S1x512x1024_1_0_0 c (held1 m (prv c))) $$ Hs; iintro Hs
  iapply (slot_load o1 inb_S4x512x1024_S1x512x1024_1_0_0 c (held1 m (prv c))) $$ Hs; iintro Hs
  iapply (slot_store o1 inb_S4x512x1024_S1x512x1024_1_0_0 c (held1 m (prv c)) _) $$ Hs; iintro Hs
  rw [show k0_pay34 v96 v386 v388 v487 v489 (mat7 m c) (held1 m (prv c)) = held2 m c from hX]
  rw [wp_ret]; imodintro
  iapply Hk
  isplitl [A0]; · iexact A0
  isplitl [HO]; · iexact HO
  isplitl [Hat]; · iexact Hat
  iexact Hs

/-- The last hop started, the last partial product begun. -/
theorem part16 (c : Dev nD) (v2 : BitVec 32) (v96 : IVec S512x32 32)  {Q : (Σ' (v534 : Vec F S512x32 .f32) (v536 : Vec F S512x512 .bf16) (v551 : FVec F S512x1024 .f32) (v555 : IVec S512x32 1), F .f32) → sProp 𝕄} :
    iprop(slot1 c (held2 m c)
        ∗ cellInv ER (xchg m) (K (c, 3)) (sC2 c)
        ∗ cellInv ER (xchg m) (K (nxt c, 6)) (rC2 (nxt c))
        ∗ reached ER (sC2 c) 0
        ∗ reached ER (rC2 (nxt c)) 0
        ∗ owing c (tallyAt (rC2 (nxt c)) () N)
        ∗ dutyTok ER (sC2 c) 0 false
        ∗ dutyTok ER (rC2 (nxt c)) 0 false
        ∗ (∃ Y, slot2 (nxt c) Y)
        ∗ holds c cc0_scratch0 (mats m c)
        ∗ holds c cc0_scratch1 (gates m c)
        ∗ holds c cc0_scratch2 (toks m c))
      ⊢ iprop((iprop(cred (tallyAt (sC2 c) () N)
        ∗ owing c (0)
        ∗ holds c cc0_scratch0 (mats m c)
        ∗ holds c cc0_scratch1 (gates m c)
        ∗ holds c cc0_scratch2 (toks m c)) -∗ Q ⟨(wAt m c (k0_off3 c 2#32) (k0_off3_inb c 2)), (xAt m c (k0_off4 c 2#32) (k0_off4_inb c 2)), k0_pay35 v2 v96 (wAt m c (k0_off3 c 2#32) (k0_off3_inb c 2)) (xAt m c (k0_off4 c 2#32) (k0_off4_inb c 2)) (mat0 m c), k0_pay36 v2 v96, Scalar.ofBits .f32 0x00000000#32⟩)
          -∗ run c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v96) Q) := by
  rw [k0_part16_eq_skeleton]; unfold k0_part16_skel
  simp only [semSignalWord, semWaitWord, Prog.lift, Prog.bind_op, Prog.bind_ret, Prog.pure_eq_ret, wp_deviceId]
  iintro ⟨Hs, #HIs, #HIr, #Hrs, #Hrr, HO, Hts, Htr, Hd, A0, A1, A2⟩ Hk
  rw [← zero_add (tallyAt (rC2 (nxt c)) () N : CellTallies nD τ sig Unit)]
  iapply (send_slot m c _ (dev5_eq c) 2 5 sS2 rS2 rfl rfl (K (c, 3)) (K (nxt c, 6)) o1 o2 inb_S4x512x1024_S1x512x1024_1_0_0 inb_S4x512x1024_S1x512x1024_2_0_0 (held2 m c) (0)
    (payload_sS2 m c false) ((payload_rS2 m (nxt c) false).trans (by unfold pay_rS2; rw [prv_nxt]))) $$ [Hs Hd HO Hts Htr]
  · isplitr; · iexact HIs
    isplitr; · iexact HIr
    isplitl [Hs]; · iexact Hs
    isplitl [Hd]; · iexact Hd
    isplitl [HO]; · iexact HO
    isplitl [Hts]; · iexact Hts
    isplitr; · iexact Hrs
    isplitl [Htr]; · iexact Htr
    iexact Hrr
  iintro ⟨Hcs, HO⟩
  iapply (wp_load 𝒱₀ (c : Thread nD τ) none Set.univ (m := Memref.whole cc0_scratch1) (Finset.subset_univ _)) $$ A1; iintro A1
  iapply (wp_load 𝒱₀ (c : Thread nD τ) none Set.univ (m := Memref.whole cc0_scratch2) (Finset.subset_univ _)) $$ A2; iintro A2
  iapply (wp_load 𝒱₀ (c : Thread nD τ) none Set.univ (m := Memref.whole cc0_scratch0) (Finset.subset_univ _)) $$ A0; iintro A0
  rw [wp_ret]; imodintro
  iapply Hk
  isplitl [Hcs]; · iexact Hcs
  isplitl [HO]; · iexact HO
  isplitl [A0]; · iexact A0
  isplitl [A1]; · iexact A1
  iexact A2

/-- A partial product continued. -/
theorem part17 (c : Dev nD) (v2 : BitVec 32) (v96 : IVec S512x32 32) (v534 : Vec F S512x32 .f32) (v536 : Vec F S512x512 .bf16) (v551 : FVec F S512x1024 .f32) (v555 : IVec S512x32 1) (cst_361 : F .f32)  {Q : (Σ' (v593 : FVec F S512x1024 .f32), BitVec 32) → sProp 𝕄} :
    iprop(holds c cc0_scratch0 (mats m c))
      ⊢ iprop((iprop(holds c cc0_scratch0 (mats m c)) -∗ Q ⟨k0_pay37 v2 v96 v534 v536 v551 v555 cst_361 (mat1 m c) (mat2 m c) (mat3 m c), 8#32⟩)
          -∗ run c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v2 v96 v534 v536 v551 v555 cst_361) Q) := by
  rw [k0_part17_eq_skeleton]; unfold k0_part17_skel
  simp only [semSignalWord, semWaitWord, Prog.lift, Prog.bind_op, Prog.bind_ret, Prog.pure_eq_ret, wp_deviceId]
  iintro A0 Hk
  iapply (wp_load 𝒱₀ (c : Thread nD τ) none Set.univ (m := Memref.whole cc0_scratch0) (Finset.subset_univ _)) $$ A0; iintro A0
  iapply (wp_load 𝒱₀ (c : Thread nD τ) none Set.univ (m := Memref.whole cc0_scratch0) (Finset.subset_univ _)) $$ A0; iintro A0
  iapply (wp_load 𝒱₀ (c : Thread nD τ) none Set.univ (m := Memref.whole cc0_scratch0) (Finset.subset_univ _)) $$ A0; iintro A0
  rw [wp_ret]; imodintro
  iapply Hk
  iexact A0

/-- A partial product continued. -/
theorem part18 (c : Dev nD) (v2 : BitVec 32) (v96 : IVec S512x32 32) (v534 : Vec F S512x32 .f32) (v536 : Vec F S512x512 .bf16) (v593 : FVec F S512x1024 .f32) (c8_i32_383 : BitVec 32)  {Q : (Σ' (v621 : FVec F S512x1024 .f32) (v629 : FVec F S512x1 .f32), FVec F S512x1024 .bf16) → sProp 𝕄} :
    iprop(holds c cc0_scratch0 (mats m c))
      ⊢ iprop((iprop(holds c cc0_scratch0 (mats m c)) -∗ Q ⟨k0_pay38 v2 v96 v534 v536 v593 c8_i32_383 (mat4 m c) (mat5 m c), k0_pay39 v2 v96 v534, k0_pay40 (mat6 m c)⟩)
          -∗ run c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v2 v96 v534 v536 v593 c8_i32_383) Q) := by
  rw [k0_part18_eq_skeleton]; unfold k0_part18_skel
  simp only [semSignalWord, semWaitWord, Prog.lift, Prog.bind_op, Prog.bind_ret, Prog.pure_eq_ret, wp_deviceId]
  iintro A0 Hk
  iapply (wp_load 𝒱₀ (c : Thread nD τ) none Set.univ (m := Memref.whole cc0_scratch0) (Finset.subset_univ _)) $$ A0; iintro A0
  iapply (wp_load 𝒱₀ (c : Thread nD τ) none Set.univ (m := Memref.whole cc0_scratch0) (Finset.subset_univ _)) $$ A0; iintro A0
  iapply (wp_load 𝒱₀ (c : Thread nD τ) none Set.univ (m := Memref.whole cc0_scratch0) (Finset.subset_univ _)) $$ A0; iintro A0
  rw [wp_ret]; imodintro
  iapply Hk
  iexact A0

/-- The last hop received, the last partial product added: the result. -/
theorem part19 (c : Dev nD) (v2 : BitVec 32) (v7 : BitVec 32) (v96 : IVec S512x32 32) (v534 : Vec F S512x32 .f32) (v536 : Vec F S512x512 .bf16) (v621 : FVec F S512x1024 .f32) (v629 : FVec F S512x1 .f32) (v631 : FVec F S512x1024 .bf16) (f4 : (cc0_stg4_0 : Ref sig .tc).ty.Contents (Elt F)) (hX : k0_pay41 v2 v96 v534 v536 v621 v629 v631 (mat7 m c) (held2 m (prv c)) = outAt m c) {Q : (PUnit) → sProp 𝕄} :
    iprop(holds c cc0_scratch0 (mats m c)
        ∗ cellInv ER (xchg m) (K (c, 6)) (rC2 c)
        ∗ levAts L lv
        ∗ cred (tallyAt (rC2 c) () N)
        ∗ owing c (0)
        ∗ atPos ER (rC2 c) 0 ∅ 0
        ∗ holds c cc0_stg4_0 (f4))
      ⊢ iprop((iprop(holds c cc0_scratch0 (mats m c)
        ∗ owing c (0)
        ∗ atPos ER (rC2 c) 1 ∅ 0
        ∗ slot2 c (held2 m (prv c))
        ∗ holds c cc0_stg4_0 (outAt m c)) -∗ Q ⟨⟩)
          -∗ run c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v2 v7 v96 v534 v536 v621 v629 v631) Q) := by
  rw [k0_part19_eq_skeleton]; unfold k0_part19_skel
  simp only [semSignalWord, semWaitWord, Prog.lift, Prog.bind_op, Prog.bind_ret, Prog.pure_eq_ret, wp_deviceId]
  iintro ⟨A0, #HIr, #Hlev, Hc, HO, Hat, H4⟩ Hk
  iapply (wp_load 𝒱₀ (c : Thread nD τ) none Set.univ (m := Memref.whole cc0_scratch0) (Finset.subset_univ _)) $$ A0; iintro A0
  iapply (wait_slot m c 5 rS2 rfl (K (c, 6)) o1 o2 inb_S4x512x1024_S1x512x1024_1_0_0 inb_S4x512x1024_S1x512x1024_2_0_0 (0) (by rw [MayWait_zero]; iintro -; iempintro) (payload_rS2 m c false)) $$ [Hc HO Hat]
  · isplitr; · iexact HIr
    isplitl [Hc]; · iexact Hc
    isplitl [HO]; · iexact HO
    isplitl [Hat]; · iexact Hat
    iexact Hlev
  iintro ⟨HO, Hat, Hs⟩
  unfold pay_rS2
  iapply (slot_load o2 inb_S4x512x1024_S1x512x1024_2_0_0 c (held2 m (prv c))) $$ Hs; iintro Hs
  iapply (wp_load 𝒱₀ (c : Thread nD τ) none Set.univ (m := Memref.whole cc0_stg4_0) (Finset.subset_univ _)) $$ H4; iintro H4
  iapply (wp_store 𝒱₀ (c : Thread nD τ) none Set.univ (m := Memref.whole cc0_stg4_0) (r := Rect.unit (s := S512x1024) ![0, 0] S512x1024.size inb_S512x1024_S512x1024_0_0) (Mk := Finset.univ) (Finset.subset_univ _)) $$ H4; iintro H4
  rw [stored_H4]
  rw [show k0_pay41 v2 v96 v534 v536 v621 v629 v631 (mat7 m c) (held2 m (prv c)) = outAt m c from hX]
  rw [wp_ret]; imodintro
  iapply Hk
  isplitl [A0]; · iexact A0
  isplitl [HO]; · iexact HO
  isplitl [Hat]; · iexact Hat
  isplitl [Hs]; · iexact Hs
  iexact H4

end Cert.KernelIdeal.MoE

end
-- ==== Proof.Body.lean ====
/-
The kernel's body on one device: its parts run in order, from what the launch deals the device to the emptied cells, its
four on-core buffers and its result.
-/
module

public import proofs.«01_k».proof.Proof.Parts

@[expose] public section

noncomputable section

namespace Cert.KernelIdeal.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 7 → ℕ)

/-- What the body starts from, -/
def bodyPre (c : Dev nD) (f4 : (cc0_stg4_0 : Ref sig .tc).ty.Contents (Elt F)) : sProp 𝕄 :=
  iprop(ghost m K c ∗ credits c ∗ levAts L lv ∗ scratches c ∗ owing c (O₀ c)
    ∗ holds c cc0_stg0_0 (xin m c) ∗ holds c cc0_stg1_0 (rwin m c) ∗ holds c cc0_stg2_0 (riin m c) ∗ holds c cc0_stg3_0 (mats m c)
    ∗ holds c cc0_stg4_0 f4)

/-- and what it leaves. -/
def bodyPost (c : Dev nD) : sProp 𝕄 :=
  iprop(Φ₁ c ∗ owing c 0
    ∗ holds c cc0_stg0_0 (xin m c) ∗ holds c cc0_stg1_0 (rwin m c) ∗ holds c cc0_stg2_0 (riin m c) ∗ holds c cc0_stg3_0 (mats m c)
    ∗ holds c cc0_stg4_0 (outAt m c))

/-- The wait for a sent slot's return. -/
theorem wait_back {α : Type} {Q : α → sProp 𝕄} {k : PUnit → Prog (TpuEff nD τ sig (Elt F) Λ₀ .tc) α}
    (c : Dev nD) (a : Fin 6) (s : DmaSem sig) (hs : osem a = .dma s) (κ : ℕ)
    (o o' : Fin 3 → ℕ) (ho : ∀ a, o a + S1x512x1024.size a ≤ S4x512x1024.size a) (ho' : ∀ a, o' a + S1x512x1024.size a ≤ S4x512x1024.size a)
    {P : sProp 𝕄} (hP : (xchg m).payload ((c : Thread nD τ), .dma s) 0 false = P)
    {hsrc : (slotM o ho).view.WordExact} {hdst : (slotM o' ho').view.WordExact} :
    iprop(cellInv ER (xchg m) κ ((c : Thread nD τ), .dma s) ∗ cred (tallyAt ((c : Thread nD τ), .dma s) () N) ∗ owing c 0
        ∗ atPos ER ((c : Thread nD τ), .dma s) 0 ∅ 0 ∗ levAts L lv)
      ⊢ iprop(((owing c 0 ∗ atPos ER ((c : Thread nD τ), .dma s) 1 ∅ 0 ∗ P) -∗ run c (k ⟨⟩) Q)
          -∗ run c (.op (.waitDma2 s (slotM o ho) (slotM o' ho') hsrc hdst) k) Q) :=
  wait_slot m c a s hs κ o o' ho ho' 0 (by rw [MayWait_zero]; iintro -; iempintro) hP

/-- A cell whose one round is over closes: its counter is the device's again, at zero. -/
theorem close_cell (c : Dev nD) (s : SemLoc sig) (κ : ℕ) :
    iprop(cellInv ER (xchg m) κ ((c : Thread nD τ), s) ∗ atPos ER ((c : Thread nD τ), s) 1 ∅ 0)
      ⊢ (|={Set.univ}=> semVal ((c : Thread nD τ), s) 0 : sProp 𝕄) :=
  Rounds.cell_close ER (xchg m) (Set.mem_univ κ) (fun h => h) (R := 0 + 1) (duties_later m ((c : Thread nD τ), s))

set_option maxHeartbeats 4000000 in
theorem body_run (c : Dev nD) (f4 : (cc0_stg4_0 : Ref sig .tc).ty.Contents (Elt F)) (Kt : PUnit → sProp 𝕄) :
    iprop(bodyPre m K c f4 ∗ (bodyPost m c -∗ Kt ⟨⟩))
      ⊢ run c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Kt := by
  rw [cc0_body_eq_skeleton]; unfold cc0_body_skel run
  rw [k0_part20_eq_skeleton]; unfold k0_part20_skel bodyPre ghost invs places marks payToks credits scratches
  iintro ⟨⟨⟨⟨#I0, #I1, #I2, #I3, #I4, #I5, #I6, #IN, #IP, #IR0, #IR1, #IR2⟩, ⟨aB, aS0, aS1, aS2, aR0, aR1, aR2⟩, ⟨#rN, #rP, #rS0, #rS1, #rS2, #rV0, #rV1, #rV2⟩, tP, tN, tS0, tS1, tS2, tR0, tR1, tR2⟩,
    ⟨cB, cR0, cR1, cR2⟩, #lev, ⟨⟨%G, A0⟩, ⟨%f1, A1⟩, ⟨%f2, A2⟩, HC⟩, HO, H0, H1, H2, H3, H4⟩, Hk⟩
  ihave HC' := (comm_cut c) $$ HC
  icases HC' with ⟨L0, L1, L2, L3⟩
  ihave A0 := (show holds c cc0_scratch0 G ⊢ (holds c cc0_scratch0 (fillTo G (mats m c) 0) : sProp 𝕄) from Entails.of_eq (by rw [fillTo_zero])) $$ A0
  rw [wp_bind]
  rw [wp_bind]
  iapply (part1 m K c) $$ [HO tP tN cB aB H0 H1 H2 L0 L1 L2]
  · isplitr; · iexact IP
    isplitr; · iexact IN
    isplitr; · iexact I0
    isplitr; · iexact lev
    isplitr; · iexact rP
    isplitr; · iexact rN
    isplitl [HO]; · iexact HO
    isplitl [tP]; · iexact tP
    isplitl [tN]; · iexact tN
    isplitl [cB]; · iexact cB
    isplitl [aB]; · iexact aB
    isplitl [L0 L1 L2]
    · isplitl [L0]; · iexact L0
      isplitl [L1]; · iexact L1
      isplitl [L2]; · iexact L2
      isplitr; · iexact rV0
      isplitr; · iexact rV1
      iexact rV2
    isplitl [H0]; · iexact H0
    isplitl [H1]; · iexact H1
    iexact H2
  iintro ⟨HO, aB, Hp, H0, H1, H2⟩
  try dsimp only
  ihave Hp' := (Entails.of_eq (show barPay c = (iprop((∃ X, slot0 (nxt c) X) ∗ (∃ X, slot1 (nxt c) X) ∗ (∃ X, slot2 (nxt c) X) ∗ reached ER (rC0 (nxt c)) 0 ∗ reached ER (rC1 (nxt c)) 0 ∗ reached ER (rC2 (nxt c)) 0) : sProp 𝕄) from rfl)) $$ Hp
  icases Hp' with ⟨D0, D1, D2, #rT0, #rT1, #rT2⟩
  rw [wp_bind]
  iapply (part2 m c _ _ _ _ G f1 f2) $$ [H2 A1 A2 H3 A0]
  · isplitl [H2]; · iexact H2
    isplitl [A1]; · iexact A1
    isplitl [A2]; · iexact A2
    isplitl [H3]; · iexact H3
    iexact A0
  iintro ⟨H2, A1, A2, H3, A0⟩
  try dsimp only
  ihave A1 := (show holds c cc0_scratch1 (k0_pay4 (k0_pay2 (ldX m c) (ldR m c)) (iota .tc S2048x32 32 [1] iota_S2048x32_d1_w32) (k0_pay3 (ldI0 m c)) (ldI1 m c))
      ⊢ (holds c cc0_scratch1 (gates m c) : sProp 𝕄) from Entails.of_eq rfl) $$ A1
  ihave A2 := (show holds c cc0_scratch2 (k0_pay5 (k0_pay1 (ldX m c))) ⊢ (holds c cc0_scratch2 (toks m c) : sProp 𝕄) from Entails.of_eq rfl) $$ A2
  rw [wp_bind]
  iapply (part3 m c G) $$ [H3 A0]
  · isplitl [H3]; · iexact H3
    iexact A0
  iintro ⟨H3, A0⟩
  try dsimp only
  rw [wp_bind]
  iapply (part4 m c _ G) $$ [H3 A0 A1 A2]
  · isplitl [H3]; · iexact H3
    isplitl [A0]; · iexact A0
    isplitl [A1]; · iexact A1
    iexact A2
  iintro ⟨H3, A0, A1, A2⟩
  try dsimp only
  rw [wp_bind]
  iapply (part5 m c _ _ _ _ _ _ _) $$ [A0]
  · iexact A0
  iintro A0
  try dsimp only
  rw [wp_bind]
  iapply (part6 m c _ _ _ _ _ _) $$ [A0]
  · iexact A0
  iintro A0
  try dsimp only
  rw [wp_bind]
  iapply (part7 m K c _ _ _ _ _ _ _ _ _ rfl) $$ [A0 L3 HO tS0 tR0 D0]
  · isplitl [A0]; · iexact A0
    isplitl [L3]; · iexact L3
    isplitr; · iexact I1
    isplitr; · iexact IR0
    isplitr; · iexact rS0
    isplitr; · iexact rT0
    isplitl [HO]; · iexact HO
    isplitl [tS0]; · iexact tS0
    isplitl [tR0]; · iexact tR0
    iexact D0
  iintro ⟨A0, cS0, HO⟩
  try dsimp only
  rw [wp_bind]
  iapply (part8 m c _ _ _ _) $$ [A0 A1 A2]
  · isplitl [A0]; · iexact A0
    isplitl [A1]; · iexact A1
    iexact A2
  iintro ⟨A0, A1, A2⟩
  try dsimp only
  rw [wp_bind]
  iapply (part9 m c _ _ _ _ _ _ _) $$ [A0]
  · iexact A0
  iintro A0
  try dsimp only
  rw [wp_bind]
  iapply (part10 m c _ _ _ _ _ _ _) $$ [A0]
  · iexact A0
  iintro A0
  try dsimp only
  rw [wp_bind]
  iapply (part11 m K c _ _ _ _ rfl) $$ [A0 cR0 HO aR0]
  · isplitl [A0]; · iexact A0
    isplitr; · iexact I4
    isplitr; · iexact lev
    isplitl [cR0]; · iexact cR0
    isplitl [HO]; · iexact HO
    iexact aR0
  iintro ⟨A0, HO, aR0, L0⟩
  try dsimp only
  rw [wp_bind]
  iapply (part12 m K c _ _) $$ [L0 HO tS1 tR1 D1 A0 A1 A2]
  · isplitl [L0]; · iexact L0
    isplitr; · iexact I2
    isplitr; · iexact IR1
    isplitr; · iexact rS1
    isplitr; · iexact rT1
    isplitl [HO]; · iexact HO
    isplitl [tS1]; · iexact tS1
    isplitl [tR1]; · iexact tR1
    isplitl [D1]; · iexact D1
    isplitl [A0]; · iexact A0
    isplitl [A1]; · iexact A1
    iexact A2
  iintro ⟨cS1, HO, A0, A1, A2⟩
  try dsimp only
  rw [wp_bind]
  iapply (part13 m c _ _ _ _ _ _ _) $$ [A0]
  · iexact A0
  iintro A0
  try dsimp only
  rw [wp_bind]
  iapply (part14 m c _ _ _ _ _ _) $$ [A0]
  · iexact A0
  iintro A0
  try dsimp only
  rw [wp_bind]
  iapply (part15 m K c _ _ _ _ _ _ rfl) $$ [A0 cR1 HO aR1]
  · isplitl [A0]; · iexact A0
    isplitr; · iexact I5
    isplitr; · iexact lev
    isplitl [cR1]; · iexact cR1
    isplitl [HO]; · iexact HO
    iexact aR1
  iintro ⟨A0, HO, aR1, L1⟩
  try dsimp only
  rw [wp_bind]
  iapply (part16 m K c _ _) $$ [L1 HO tS2 tR2 D2 A0 A1 A2]
  · isplitl [L1]; · iexact L1
    isplitr; · iexact I3
    isplitr; · iexact IR2
    isplitr; · iexact rS2
    isplitr; · iexact rT2
    isplitl [HO]; · iexact HO
    isplitl [tS2]; · iexact tS2
    isplitl [tR2]; · iexact tR2
    isplitl [D2]; · iexact D2
    isplitl [A0]; · iexact A0
    isplitl [A1]; · iexact A1
    iexact A2
  iintro ⟨cS2, HO, A0, A1, A2⟩
  try dsimp only
  rw [wp_bind]
  iapply (part17 m c _ _ _ _ _ _ _) $$ [A0]
  · iexact A0
  iintro A0
  try dsimp only
  rw [wp_bind]
  iapply (part18 m c _ _ _ _ _ _) $$ [A0]
  · iexact A0
  iintro A0
  try dsimp only
  rw [wp_bind]
  iapply (part19 m K c _ _ _ _ _ _ _ _ f4 rfl) $$ [A0 cR2 HO aR2 H4]
  · isplitl [A0]; · iexact A0
    isplitr; · iexact I6
    isplitr; · iexact lev
    isplitl [cR2]; · iexact cR2
    isplitl [HO]; · iexact HO
    isplitl [aR2]; · iexact aR2
    iexact H4
  iintro ⟨A0, HO, aR2, L2, H4⟩
  try dsimp only
  simp only [Prog.lift, Prog.bind_op, Prog.bind_ret, Prog.pure_eq_ret]
  iapply (wait_back m c 0 sS0 rfl (K (c, 1)) o0 o3 inb_S4x512x1024_S1x512x1024_0_0_0 inb_S4x512x1024_S1x512x1024_3_0_0 (payload_sS0 m c false)) $$ [cS0 HO aS0]
  · isplitr; · iexact I1
    isplitl [cS0]; · iexact cS0
    isplitl [HO]; · iexact HO
    isplitl [aS0]; · iexact aS0
    iexact lev
  iintro ⟨HO, aS0, L3⟩
  iapply (wait_back m c 1 sS1 rfl (K (c, 2)) o1 o0 inb_S4x512x1024_S1x512x1024_1_0_0 inb_S4x512x1024_S1x512x1024_0_0_0 (payload_sS1 m c false)) $$ [cS1 HO aS1]
  · isplitr; · iexact I2
    isplitl [cS1]; · iexact cS1
    isplitl [HO]; · iexact HO
    isplitl [aS1]; · iexact aS1
    iexact lev
  iintro ⟨HO, aS1, L0⟩
  unfold run
  rw [wp_ret]; imodintro
  iapply (wait_back m c 2 sS2 rfl (K (c, 3)) o2 o1 inb_S4x512x1024_S1x512x1024_2_0_0 inb_S4x512x1024_S1x512x1024_1_0_0 (payload_sS2 m c false)) $$ [cS2 HO aS2]
  · isplitr; · iexact I3
    isplitl [cS2]; · iexact cS2
    isplitl [HO]; · iexact HO
    isplitl [aS2]; · iexact aS2
    iexact lev
  iintro ⟨HO, aS2, L1⟩
  imod (close_cell m c _ (K (c, 0))) $$ [aB] with aB
  · isplitr; · iexact I0
    iexact aB
  imod (close_cell m c _ (K (c, 1))) $$ [aS0] with aS0
  · isplitr; · iexact I1
    iexact aS0
  imod (close_cell m c _ (K (c, 2))) $$ [aS1] with aS1
  · isplitr; · iexact I2
    iexact aS1
  imod (close_cell m c _ (K (c, 3))) $$ [aS2] with aS2
  · isplitr; · iexact I3
    iexact aS2
  imod (close_cell m c _ (K (c, 4))) $$ [aR0] with aR0
  · isplitr; · iexact I4
    iexact aR0
  imod (close_cell m c _ (K (c, 5))) $$ [aR1] with aR1
  · isplitr; · iexact I5
    iexact aR1
  imod (close_cell m c _ (K (c, 6))) $$ [aR2] with aR2
  · isplitr; · iexact I6
    iexact aR2
  rw [wp_ret]; imodintro
  iapply Hk
  unfold bodyPost Φ₁ scratches pay_sS0 pay_sS1 pay_sS2
  isplitl [A0 A1 A2 L0 L1 L2 L3 aB aS0 aS1 aS2 aR0 aR1 aR2]
  · isplitl [A0 A1 A2 L0 L1 L2 L3]
    · isplitl [A0]; · (iexists _; iexact A0)
      isplitl [A1]; · (iexists _; iexact A1)
      isplitl [A2]; · (iexists _; iexact A2)
      iapply (comm_join c _ _ _ _)
      isplitl [L0]; · iexact L0
      isplitl [L1]; · iexact L1
      isplitl [L2]; · iexact L2
      iexact L3
    isplitl [aB]; · iexact aB
    isplitl [aS0]; · iexact aS0
    isplitl [aS1]; · iexact aS1
    isplitl [aS2]; · iexact aS2
    isplitl [aR0]; · iexact aR0
    isplitl [aR1]; · iexact aR1
    iexact aR2
  isplitl [HO]; · iexact HO
  isplitl [H0]; · iexact H0
  isplitl [H1]; · iexact H1
  isplitl [H2]; · iexact H2
  isplitl [H3]; · iexact H3
  iexact H4

end Cert.KernelIdeal.MoE

end
-- ==== Proof.Launch.lean ====
/-
The expert-parallel kernel's launch, and its run.

From any memory with every counter at zero the launch deals each device its seven cells' ghost state; one global step
allocates the cells' invariants and passes the duties' tokens round the ring: a barrier's `true` token to the right
neighbour, its `false` token to the left one, a receive cell's token to the left one. The credit a device's waits spend
is what the others owe its cells at launch: two units on its barrier, a slot on each receive cell.
-/
module

public import proofs.«01_k».proof.Proof.Body
public import proofs.«01_k».proof.Proof.Gen.KernelIdeal.Points
public import Idealize.ShloMosaic.Lib.Pipeline.CollectiveSegs

@[expose] public section

noncomputable section

namespace Cert.KernelIdeal.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the staging pipeline runs it -/

theorem before_fetched (c : Dev nD) (w : Fin cfg0.W) (t : Fin cfg0.N) (h : (cfg0.win w).fetch t = true) (d) :
    (dats m ρ 0 c).before w t d = (dats m ρ 0 c).fetched w t d := by unfold Dat.before; rw [if_pos h]

/-- A whole buffer owned at contents `X` is that buffer held at `X`. -/
theorem owns_iff (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ holds c b f) := by
  unfold owns; simp only [Memref.view_whole, View.read_whole, View.set_whole]

/-- What the pipeline hands the body: the five staged buffers as it finds them. -/
def stagedPre (c : Dev nD) : sProp 𝕄 :=
  iprop(Φ₀ m c ∗ (dats m ρ 0 c).owesAt () (t0_0 : Fin cfg0.N).castSucc
    ∗ (∃ d, ∃ f : Buf (Elt F) ((c : Thread nD τ).loc cc0_stg0_0), ⌜f = (dats m ρ 0 c).before (0 : Fin 5) t0_0 d⌝ ∗ holds c cc0_stg0_0 f)
    ∗ (∃ d, ∃ f : Buf (Elt F) ((c : Thread nD τ).loc cc0_stg1_0), ⌜f = (dats m ρ 0 c).before (1 : Fin 5) t0_0 d⌝ ∗ holds c cc0_stg1_0 f)
    ∗ (∃ d, ∃ f : Buf (Elt F) ((c : Thread nD τ).loc cc0_stg2_0), ⌜f = (dats m ρ 0 c).before (2 : Fin 5) t0_0 d⌝ ∗ holds c cc0_stg2_0 f)
    ∗ (∃ d, ∃ f : Buf (Elt F) ((c : Thread nD τ).loc cc0_stg3_0), ⌜f = (dats m ρ 0 c).before (3 : Fin 5) t0_0 d⌝ ∗ holds c cc0_stg3_0 f)
    ∗ (∃ d, ∃ f : Buf (Elt F) ((c : Thread nD τ).loc cc0_stg4_0), ⌜f = (dats m ρ 0 c).before (4 : Fin 5) t0_0 d⌝ ∗ holds c cc0_stg4_0 f))

/-- What the body hands back. -/
def stagedPost (c : Dev nD) : sProp 𝕄 :=
  iprop(Φ₁ c ∗ (dats m ρ 0 c).owesAt () (t0_0 : Fin cfg0.N).succ
    ∗ (∃ f : Buf (Elt F) ((c : Thread nD τ).loc cc0_stg0_0), ⌜f = xin m c⌝ ∗ holds c cc0_stg0_0 f)
    ∗ (∃ f : Buf (Elt F) ((c : Thread nD τ).loc cc0_stg1_0), ⌜f = rwin m c⌝ ∗ holds c cc0_stg1_0 f)
    ∗ (∃ f : Buf (Elt F) ((c : Thread nD τ).loc cc0_stg2_0), ⌜f = riin m c⌝ ∗ holds c cc0_stg2_0 f)
    ∗ (∃ f : Buf (Elt F) ((c : Thread nD τ).loc cc0_stg3_0), ⌜f = mats m c⌝ ∗ holds c cc0_stg3_0 f)
    ∗ (∃ f : Buf (Elt F) ((c : Thread nD τ).loc cc0_stg4_0), ⌜f = outAt m c⌝ ∗ holds c cc0_stg4_0 f))

theorem staged_in (c : Dev nD) : stagedPre m ρ c ⊢ iprop(∃ K f4, bodyPre m K c f4) := by
  unfold stagedPre Φ₀ start Dat.owesAt Pipeline.owesWithin
  iintro ⟨⟨⟨⟨%K, Hg⟩, Hcr, Hlev⟩, Hscr⟩, ⟨%W, %hW, HO⟩, ⟨%d0, %f0, %h0, H0⟩, ⟨%d1, %f1, %h1, H1⟩, ⟨%d2, %f2, %h2, H2⟩, ⟨%d3, %f3, %h3, H3⟩, ⟨%d4, %f4, %h4, H4⟩⟩
  have e0 : f0 = xin m c := h0.trans ((before_fetched m ρ c (0 : Fin 5) t0_0 (fetch0_0 t0_0) d0).trans rfl)
  have e1 : f1 = rwin m c := h1.trans ((before_fetched m ρ c (1 : Fin 5) t0_0 (fetch0_1 t0_0) d1).trans rfl)
  have e2 : f2 = riin m c := h2.trans ((before_fetched m ρ c (2 : Fin 5) t0_0 (fetch0_2 t0_0) d2).trans rfl)
  have e3 : f3 = mats m c := h3.trans ((before_fetched m ρ c (3 : Fin 5) t0_0 (fetch0_3 t0_0) d3).trans rfl)
  subst e0 e1 e2 e3
  iexists K; iexists f4
  unfold bodyPre owing
  isplitl [Hg]; · iexact Hg
  isplitl [Hcr]; · iexact Hcr
  isplitl [Hlev]; · iexact Hlev
  isplitl [Hscr]; · iexact Hscr
  isplitl [HO]; · iexists W; iexact HO
  isplitl [H0]; · iexact H0
  isplitl [H1]; · iexact H1
  isplitl [H2]; · iexact H2
  isplitl [H3]; · iexact H3
  iexact H4

theorem staged_out (c : Dev nD) : bodyPost m c ⊢ stagedPost m ρ c := by
  unfold bodyPost stagedPost Dat.owesAt Pipeline.owesWithin owing
  iintro ⟨HΦ, ⟨%W, HO⟩, H0, H1, H2, H3, H4⟩
  isplitl [HΦ]; · iexact HΦ
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

theorem staged_run (c : Dev nD) : stagedPre m ρ c ⊢ run c (bodyAt0 t0_0) (fun _ => stagedPost m ρ c) := by
  iintro H
  ihave H' := (staged_in m ρ c) $$ H
  icases H' with ⟨%K, %f4, Hb⟩
  iapply (body_run m K c f4 fun _ => stagedPost m ρ c)
  isplitl [Hb]; · iexact Hb
  iintro Hp
  iapply (staged_out m ρ c)
  iexact Hp

set_option maxRecDepth 4000 in
/-- The pipeline's obligation. -/
theorem body_obligation (c : Dev nD) : BodyObligation (dats m ρ 0 c) (defs₀ (F := F)) 𝒱₀ () Set.univ := fun t => by
  rw [fin_N0 t]
  rw [bigSep_W0, bigSep_W0]
  simp only [owns_iff]
  exact staged_run m ρ c

/-! ## What the launch deals -/

theorem ownSemFacts : Pipeline.OwnSemFacts cfg0.spec osem := by decide

theorem share_full (c : Dev nD) (w : Fin cfg0.W) : (dats m ρ 0 c).share w = fullShare := by unfold Dat.share; split <;> rfl

theorem kcell_inj : Function.Injective (kcell : Dev nD × Fin 7 → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- Every cell of the exchange, on every device. -/
def xcells : Finset (GSem nD τ sig) := Finset.univ.map ⟨kcell, kcell_inj⟩

/-- A device's eight duties: its barrier's two, then one of each transfer cell. -/
abbrev dutyOf : Fin 8 → Fin 7 × Bool
  | 0 => (0, true) | 1 => (0, false) | 2 => (1, false) | 3 => (2, false) | 4 => (3, false) | 5 => (4, false) | 6 => (5, false) | 7 => (6, false)
theorem dutyOf_inj : Function.Injective dutyOf := by decide
abbrev tokOf (cj : Dev nD × Fin 8) : GSem nD τ sig × ℕ × Bool := (kcell (cj.1, (dutyOf cj.2).1), 0, (dutyOf cj.2).2)
theorem tokOf_inj : Function.Injective (tokOf : Dev nD × Fin 8 → GSem nD τ sig × ℕ × Bool) := by
  rintro ⟨c, j⟩ ⟨c', j'⟩ h
  have h1 := kcell_inj (congrArg Prod.fst h)
  have h2 : (dutyOf j).2 = (dutyOf j').2 := congrArg (fun x : GSem nD τ sig × ℕ × Bool => x.2.2) h
  have h3 : (dutyOf j).1 = (dutyOf j').1 := congrArg Prod.snd h1
  have h4 : c = c' := congrArg Prod.fst h1
  have h5 : j = j' := dutyOf_inj (Prod.ext h3 h2)
  rw [h4, h5]
def xtoks : Finset (GSem nD τ sig × ℕ × Bool) := Finset.univ.map ⟨tokOf, tokOf_inj⟩

/-- The ghost state at launch: the staging copies', and the exchange's. -/
def u₀ : UU := (initOf (Pipeline.cells cfgs cellOf_inj) (Pipeline.launchToks cfgs cellOf_inj), initOf xcells xtoks)

/-- The tokens of device `c`'s own cells. -/
def ownToks (c : Dev nD) : sProp 𝕄 :=
  iprop(dutyTok ER (barC c) 0 true ∗ dutyTok ER (barC c) 0 false
    ∗ dutyTok ER (sC0 c) 0 false ∗ dutyTok ER (sC1 c) 0 false ∗ dutyTok ER (sC2 c) 0 false
    ∗ dutyTok ER (rC0 c) 0 false ∗ dutyTok ER (rC1 c) 0 false ∗ dutyTok ER (rC2 c) 0 false)

/-- What every device is dealt, -/
def G (c : Dev nD) : sProp 𝕄 :=
  iprop((bigSep Finset.univ fun k : Fin 7 => roundState ER (xchg m) (kcell (c, k)) 0)
    ∗ (bigSep Finset.univ fun k : Fin 7 => atPos ER (kcell (c, k)) 0 ∅ 0)
    ∗ (bigSep Finset.univ fun k : Fin 7 => reached ER (kcell (c, k)) 0) ∗ ownToks c)
/-- and what the global step makes of it. -/
def G' (c : Dev nD) : sProp 𝕄 := iprop(∃ K, ghost m K c)

theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem cells_by_device (Φ : GSem nD τ sig → sProp 𝕄) :
    bigSep xcells Φ = bigSep Finset.univ fun c : Dev nD => bigSep Finset.univ fun k : Fin 7 => Φ (kcell (c, k)) := by
  unfold xcells; rw [bigSep_map, bigSep_univ_prod]; rfl
theorem toks_by_device :
    bigSep xtoks (fun x => (dutyTok ER x.1 x.2.1 x.2.2 : sProp 𝕄)) = bigSep Finset.univ fun c : Dev nD => ownToks c := by
  unfold xtoks; rw [bigSep_map, bigSep_univ_prod]
  exact bigSep_congr fun c _ => by unfold ownToks; rw [bigSep_eight]; rfl

theorem deal : BI.own (ER (initOf xcells xtoks)) ⊢ (|==> bigSep Finset.univ (G m) : sProp 𝕄) := by
  iintro HX
  imod (Rounds.fund ER (xchg m) xcells xtoks) $$ HX with ⟨Hs, Hr, Ha, Ht⟩
  imodintro
  unfold G; simp only [bigSep_sep']
  isplitl [Hs]; · iapply (Entails.of_eq (cells_by_device fun g => roundState ER (xchg m) g 0)); iexact Hs
  isplitl [Ha]; · iapply (Entails.of_eq (cells_by_device fun g => atPos ER g 0 ∅ 0)); iexact Ha
  isplitl [Hr]; · iapply (Entails.of_eq (cells_by_device fun g => reached ER g 0)); iexact Hr
  iapply (Entails.of_eq toks_by_device); iexact Ht

/-! ## The global step -/

theorem ownSems_eq (c : Dev nD) : (Pipeline.ownSems0 (Ix := Unit) (Name := ℕ) (U := UU) (Lvl := ℕ) (Val := Elt F) (τ := τ) osem c : sProp 𝕄)
    = iprop(semVal (sC0 c) 0 ∗ semVal (sC1 c) 0 ∗ semVal (sC2 c) 0 ∗ semVal (rC0 c) 0 ∗ semVal (rC1 c) 0 ∗ semVal (rC2 c) 0) := by
  rw [Pipeline.ownSems0_eq_of_list c osem [0, 1, 2, 3, 4, 5] (by decide) (by decide)]; rfl
theorem barSem_eq (c : Dev nD) : (unscopedSems0 c : sProp 𝕄) = semVal (barC c) 0 := by
  unfold unscopedSems0; rw [bigSep_eq_bigSepL_of_eq [SemLoc.reg barS] (by decide) (by decide)]; rfl

/-- Every counter of the exchange. -/
theorem counters (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems_eq, barSem_eq, bigSep_seven]
  iintro ⟨HS, HB⟩
  isplitl [HB]; · iexact HB
  iexact HS

/-- A device's own cells, their invariants allocated. -/
def ownCells (c : Dev nD) : sProp 𝕄 :=
  iprop((bigSep Finset.univ fun k : Fin 7 => iprop(∃ κ : ℕ, cellInv ER (xchg m) κ (kcell (c, k))))
    ∗ (bigSep Finset.univ fun k : Fin 7 => atPos ER (kcell (c, k)) 0 ∅ 0)
    ∗ (bigSep Finset.univ fun k : Fin 7 => reached ER (kcell (c, k)) 0) ∗ ownToks c)

theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> ownCells m c := by
  unfold G ownCells
  iintro ⟨Hos, Hus, Hst, Hat, Hre, Htok⟩
  ihave Hv := (counters (F := F) c) $$ [Hos Hus]
  · isplitl [Hos] <;> iassumption
  imod (show iprop((bigSep Finset.univ fun k : Fin 7 => semVal (kcell (c, k)) 0) ∗ bigSep Finset.univ fun k : Fin 7 => roundState ER (xchg m) (kcell (c, k)) 0)
      ⊢ (|={Set.univ}=> bigSep Finset.univ fun k => iprop(∃ κ : ℕ, cellInv ER (xchg m) κ (kcell (c, k))) : sProp 𝕄) from by
        rw [← bigSep_sep']
        exact (bigSep_mono fun k _ => (Rounds.body_intro ER (xchg m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hre]; · iexact Hre
  iexact Htok

/-- What every device may know: all the invariants, all the marks. -/
def known (K : Dev nD × Fin 7 → ℕ) : sProp 𝕄 :=
  iprop((bigSep Finset.univ fun ck : Dev nD × Fin 7 => cellInv ER (xchg m) (K ck) (kcell ck))
    ∗ bigSep Finset.univ fun ck : Dev nD × Fin 7 => reached ER (kcell ck) 0)

instance known_persistent (K : Dev nD × Fin 7 → ℕ) : BI.Persistent (known m K) := by unfold known; infer_instance

theorem known_inv (K : Dev nD × Fin 7 → ℕ) (ck : Dev nD × Fin 7) : known m K ⊢ cellInv ER (xchg m) (K ck) (kcell ck) := by
  unfold known
  exact (show iprop(_ ∗ _) ⊢ _ from by iintro ⟨H, -⟩; iexact H).trans
    (bigSep_elim (Φ := fun ck : Dev nD × Fin 7 => (cellInv ER (xchg m) (K ck) (kcell ck) : sProp 𝕄)) (Finset.mem_univ ck))
theorem known_mark (K : Dev nD × Fin 7 → ℕ) (ck : Dev nD × Fin 7) : known m K ⊢ (reached ER (kcell ck) 0 : sProp 𝕄) := by
  unfold known
  exact (show iprop(_ ∗ _) ⊢ _ from by iintro ⟨-, H⟩; iexact H).trans
    (bigSep_elim (Φ := fun ck : Dev nD × Fin 7 => (reached ER (kcell ck) 0 : sProp 𝕄)) (Finset.mem_univ ck))

theorem known_invs (K : Dev nD × Fin 7 → ℕ) (c : Dev nD) : known m K ⊢ invs m K c := by
  unfold invs
  iintro #H
  isplitr; · iapply (known_inv m K (c, 0)); iexact H
  isplitr; · iapply (known_inv m K (c, 1)); iexact H
  isplitr; · iapply (known_inv m K (c, 2)); iexact H
  isplitr; · iapply (known_inv m K (c, 3)); iexact H
  isplitr; · iapply (known_inv m K (c, 4)); iexact H
  isplitr; · iapply (known_inv m K (c, 5)); iexact H
  isplitr; · iapply (known_inv m K (c, 6)); iexact H
  isplitr; · iapply (known_inv m K (nxt c, 0)); iexact H
  isplitr; · iapply (known_inv m K (prv c, 0)); iexact H
  isplitr; · iapply (known_inv m K (nxt c, 4)); iexact H
  isplitr; · iapply (known_inv m K (nxt c, 5)); iexact H
  iapply (known_inv m K (nxt c, 6)); iexact H
theorem known_marks (K : Dev nD × Fin 7 → ℕ) (c : Dev nD) : known m K ⊢ marks c := by
  unfold marks
  iintro #H
  isplitr; · iapply (known_mark m K (nxt c, 0)); iexact H
  isplitr; · iapply (known_mark m K (prv c, 0)); iexact H
  isplitr; · iapply (known_mark m K (c, 1)); iexact H
  isplitr; · iapply (known_mark m K (c, 2)); iexact H
  isplitr; · iapply (known_mark m K (c, 3)); iexact H
  isplitr; · iapply (known_mark m K (c, 4)); iexact H
  isplitr; · iapply (known_mark m K (c, 5)); iexact H
  iapply (known_mark m K (c, 6)); iexact H

theorem ghost_intro (K : Dev nD × Fin 7 → ℕ) (c : Dev nD) : iprop(known m K ∗ places c ∗ payToks c) ⊢ G' m c := by
  unfold G' ghost
  iintro ⟨#H, Hp, Ht⟩
  iexists K
  isplitr; · iapply (known_invs m K c); iexact H
  isplitl [Hp]; · iexact Hp
  isplitr; · iapply (known_marks m K c); iexact H
  iexact Ht

/-- The tokens go round: each to the device that pays its duty. -/
theorem toks_round : (bigSep Finset.univ fun c : Dev nD => (ownToks c : sProp 𝕄)) ⊢ bigSep Finset.univ fun c : Dev nD => payToks c := by
  unfold ownToks payToks
  simp only [bigSep_sep']
  rw [bigSep_univ_equiv ring.symm (fun c : Dev nD => (dutyTok ER (barC c) 0 true : sProp 𝕄)),
    bigSep_univ_equiv ring (fun c : Dev nD => (dutyTok ER (barC c) 0 false : sProp 𝕄)),
    bigSep_univ_equiv ring (fun c : Dev nD => (dutyTok ER (rC0 c) 0 false : sProp 𝕄)),
    bigSep_univ_equiv ring (fun c : Dev nD => (dutyTok ER (rC1 c) 0 false : sProp 𝕄)),
    bigSep_univ_equiv ring (fun c : Dev nD => (dutyTok ER (rC2 c) 0 false : sProp 𝕄))]
  exact Entails.of_eq rfl

/-- Persistent knowledge reaches every conjunct. -/
theorem bigSep_knowing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem places_all : (bigSep Finset.univ fun c : Dev nD => bigSep Finset.univ fun k : Fin 7 => (atPos ER (kcell (c, k)) 0 ∅ 0 : sProp 𝕄))
    = bigSep Finset.univ fun c : Dev nD => places c :=
  bigSep_congr fun c _ => by unfold places; rw [bigSep_seven]

theorem share_out : (bigSep Finset.univ fun c : Dev nD => ownCells m c) ⊢ bigSep Finset.univ (G' m) := by
  unfold ownCells
  simp only [bigSep_sep']
  rw [← bigSep_univ_prod (fun ck : Dev nD × Fin 7 => iprop(∃ κ : ℕ, cellInv ER (xchg m) κ (kcell ck))),
    ← bigSep_univ_prod (fun ck : Dev nD × Fin 7 => (reached ER (kcell ck) 0 : sProp 𝕄)), places_all]
  iintro ⟨HI, Hat, #HR, Htok⟩
  ihave HK := (BI.bigSep_exists_pi Finset.univ (fun (ck : Dev nD × Fin 7) (κ : ℕ) => (cellInv ER (xchg m) κ (kcell ck) : sProp 𝕄))) $$ HI
  icases HK with ⟨%K, #HI⟩
  ihave Htk := (toks_round (F := F)) $$ Htok
  iapply (bigSep_knowing (R := known m K) fun c _ => ghost_intro m K c)
  isplitr
  · unfold known; isplitl; · iexact HI
    iexact HR
  · iapply (Entails.of_eq (bigSep_sep' Finset.univ (fun c : Dev nD => (places c : sProp 𝕄)) payToks).symm)
    isplitl [Hat]; · iexact Hat
    iexact Htk

theorem global_step : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (share_out m))

/-! ## The credit at launch -/

/-- What one debt of device `a` says of the cell of semaphore `k` on device `c`. -/
theorem tally_at (a c : Dev nD) (j k : Fin 7) (n : ℕ) :
    (tallyAt (kcell (a, j)) () n : CellTallies nD τ sig Unit) (kcell (c, k)) () = if a = c ∧ j = k then n else 0 := by
  rw [tallyAt_apply]
  by_cases h : a = c ∧ j = k
  · rw [if_pos h, if_pos ⟨by rw [h.1, h.2], rfl⟩]
  · rw [if_neg h, if_neg fun h' => h ⟨congrArg Prod.fst (kcell_inj h'.1).symm, congrArg Prod.snd (kcell_inj h'.1).symm⟩]

/-- What device `d` owes the cell of semaphore `k` on device `c`. -/
theorem owed_at (d c : Dev nD) (k : Fin 7) : O₀ d (kcell (c, k)) ()
    = ((((if nxt d = c ∧ (6 : Fin 7) = k then N else 0) + (if nxt d = c ∧ (5 : Fin 7) = k then N else 0)) + (if nxt d = c ∧ (4 : Fin 7) = k then N else 0))
        + (if nxt d = c ∧ (0 : Fin 7) = k then 1 else 0)) + (if prv d = c ∧ (0 : Fin 7) = k then 1 else 0) := by
  unfold O₀ O₁ OR0 OR1
  simp only [Pi.add_apply, Finsupp.add_apply]
  rw [show rC2 (nxt d) = kcell (nxt d, 6) from rfl, show rC1 (nxt d) = kcell (nxt d, 5) from rfl, show rC0 (nxt d) = kcell (nxt d, 4) from rfl,
    show barC (nxt d) = kcell (nxt d, 0) from rfl, show barC (prv d) = kcell (prv d, 0) from rfl]
  rw [tally_at, tally_at, tally_at, tally_at, tally_at]

theorem nxt_eq_iff (d c : Dev nD) : Iff (nxt d = c) (d = prv c) :=
  ⟨fun h => by rw [← h, prv_nxt], fun h => by rw [h, nxt_prv]⟩
theorem prv_eq_iff (d c : Dev nD) : Iff (prv d = c) (d = nxt c) :=
  ⟨fun h => by rw [← h, nxt_prv], fun h => by rw [h, prv_nxt]⟩

/-- All that is owed a cell, summed over the devices. -/
theorem launch_at (c : Dev nD) (k : Fin 7) (n : ℕ) (h : ∑ d : Dev nD, O₀ d (kcell (c, k)) () = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, h]

theorem sum_bar (c : Dev nD) : ∑ d : Dev nD, O₀ d (kcell (c, 0)) () = 2 := by
  simp only [owed_at, nxt_eq_iff, prv_eq_iff, Finset.sum_add_distrib]
  simp
theorem sum_r0 (c : Dev nD) : ∑ d : Dev nD, O₀ d (kcell (c, 4)) () = N := by
  simp only [owed_at, nxt_eq_iff, prv_eq_iff, Finset.sum_add_distrib]
  generalize N = n; simp
theorem sum_r1 (c : Dev nD) : ∑ d : Dev nD, O₀ d (kcell (c, 5)) () = N := by
  simp only [owed_at, nxt_eq_iff, prv_eq_iff, Finset.sum_add_distrib]
  generalize N = n; simp
theorem sum_r2 (c : Dev nD) : ∑ d : Dev nD, O₀ d (kcell (c, 6)) () = N := by
  simp only [owed_at, nxt_eq_iff, prv_eq_iff, Finset.sum_add_distrib]
  generalize N = n; simp

theorem creds (c : Dev nD) : (Pipeline.launchCred O₀ c : sProp 𝕄) ⊢ credits c := by
  unfold Pipeline.launchCred credits
  rw [bigSep_univ_at _ (csem 0), launch_at c 0 2 (sum_bar c)]
  refine sep_mono_right ?_
  rw [BI.bigSep_erase (i := csem 4) (Finset.mem_erase.mpr ⟨csem_ne (by decide), Finset.mem_univ _⟩), launch_at c 4 N (sum_r0 c)]
  refine sep_mono_right ?_
  rw [BI.bigSep_erase (i := csem 5) (Finset.mem_erase.mpr ⟨csem_ne (by decide), Finset.mem_erase.mpr ⟨csem_ne (by decide), Finset.mem_univ _⟩⟩), launch_at c 5 N (sum_r1 c)]
  refine sep_mono_right ?_
  rw [← launch_at c 6 N (sum_r2 c)]
  exact bigSep_elim (Finset.mem_erase.mpr ⟨csem_ne (by decide : (6 : Fin 7) ≠ 5), Finset.mem_erase.mpr ⟨csem_ne (by decide : (6 : Fin 7) ≠ 4), Finset.mem_erase.mpr ⟨csem_ne (by decide : (6 : Fin 7) ≠ 0), Finset.mem_univ _⟩⟩⟩)

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems_eq, barSem_eq]
  unfold Φ₁ scratches
  iintro ⟨Hr, HB, HS⟩
  isplitl [HB]; · iexact HB
  isplitl [HS]; · iexact HS
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of the four devices'
    programs ends, every array at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := global_step m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

/-- The operands keep their contents. -/
theorem finalA_arg0 (c : Dev nD) : finalA m ρ c (0 : Fin 5) = m ((c : Thread nD τ).loc main_arg0) := (dats m ρ 0 c).arrAt_in (0 : Fin 5) rfl _
theorem finalA_arg1 (c : Dev nD) : finalA m ρ c (1 : Fin 5) = m ((c : Thread nD τ).loc main_arg1) := (dats m ρ 0 c).arrAt_in (1 : Fin 5) rfl _
theorem finalA_arg2 (c : Dev nD) : finalA m ρ c (2 : Fin 5) = m ((c : Thread nD τ).loc main_arg2) := (dats m ρ 0 c).arrAt_in (2 : Fin 5) rfl _
theorem finalA_arg3 (c : Dev nD) : finalA m ρ c (3 : Fin 5) = m ((c : Thread nD τ).loc main_arg3) := (dats m ρ 0 c).arrAt_in (3 : Fin 5) rfl _

/-- The result's block is its whole array: an element sits at its own index. -/
theorem result_emb (y : S512x1024.Idx) : (win0_4.blk (0 : Fin 1)).view.emb y = y := by
  refine funext fun a => Fin.ext ?_
  show ((win0_4.rect (0 : Fin 1)).emb y a : Nat) = y a
  exact win0_4.rect_emb_val_of_index_zero (0 : Fin 1) a rfl y

/-- The result is what every device computed. -/
theorem finalA_result (c : Dev nD) : finalA m ρ c (4 : Fin 5) = outAt m c := by
  unfold finalA
  refine (dats m ρ 0 c).arrAt_eq_of_cover (4 : Fin 5) (outAt m c) (fun t _ => ?_) fun i => ⟨t0_0, flush0_4 t0_0, ?_⟩
  · rw [fin_N0 t]
    refine funext fun y => ?_
    show outAt m c y = (win0_4.blk (0 : Fin 1)).view.read (Elt F) (outAt m c) y
    rw [View.read_apply, result_emb]; rfl
  · rw [← result_emb i]
    exact (win0_4.blk (0 : Fin 1)).view.emb_mem_set i

end Cert.KernelIdeal.MoE

end
-- ==== Proof.Hop.lean ====
/-
What the kernel's stored values are, element by element, in exact arithmetic.

One hop's partial product at row `i` and column `h` is a sum of eight terms, one for each of the device's experts: the
expert's gate weight of the row (`picked`: the kernel takes it out of the row by comparing the expert's number with the
column's) times the row's product with the expert's matrix (`prod`).

With the device's own number and the chunk's rows put in (`dpart`), the three hops and the result read as the partial
products of the four devices, added up round the ring for one and the same chunk (`outAt_apply`).
-/
module

public import proofs.«01_k».proof.Proof.Contents
public import Idealize.ShloMosaic.Lib.Pointwise

@[expose] public section

noncomputable section

namespace Cert.KernelIdeal.MoE

open Cert.KernelIdeal Cert.KernelIdeal.Gen
open Idealize.ShloMosaic
open Idealize.ShloMosaic.TcCoe

/-! ## One hop -/

section Hop
variable (v : BitVec 32) (w : Vec Ideal S512x32 .f32) (x : Vec Ideal S512x512 .bf16) (e0 e1 e2 e3 e4 e5 e6 e7 r : Vec Ideal S1x512x1024 .bf16)

/-- The gate weight of row `i` for the device's expert `j`: the row summed, every other column masked to zero. -/
def picked (j : ℕ) (i : Fin 512) : EReal :=
  ∑ k : Fin 32, Scalar.select (IntOp.cmpi .eq (BitVec.ofNat 32 k.val) (Scalar.addi (Scalar.muli v 8#32) (BitVec.ofNat 32 j))) (w (ix2 i k)) 0

/-- Row `i`'s product with one expert's matrix. -/
def prod (e : Vec Ideal S1x512x1024 .bf16) (i : Fin 512) (h : Fin 1024) : EReal := ∑ k : Fin 512, x (ix2 i k) * e (ix3 0 k h)

/-- The device's partial product. -/
def part (i : Fin 512) (h : Fin 1024) : EReal :=
  picked v w 0 i * prod x e0 i h + picked v w 1 i * prod x e1 i h + picked v w 2 i * prod x e2 i h + picked v w 3 i * prod x e3 i h
    + picked v w 4 i * prod x e4 i h + picked v w 5 i * prod x e5 i h + picked v w 6 i * prod x e6 i h + picked v w 7 i * prod x e7 i h

theorem start0_apply (i : Fin 512) (h : Fin 1024) :
    start0 v w x e0 e1 e2 e3 e4 e5 e6 e7 (ix3 0 i h) = part v w x e0 e1 e2 e3 e4 e5 e6 e7 i h := by
  unfold start0
  unfold_payloads
  pointwise
  rfl

theorem hop0_apply (i : Fin 512) (h : Fin 1024) :
    hop0 v w x e0 e1 e2 e3 e4 e5 e6 e7 r (ix3 0 i h) = r (ix3 0 i h) + part v w x e0 e1 e2 e3 e4 e5 e6 e7 i h := by
  unfold hop0
  unfold_payloads
  pointwise
  rfl

theorem hop1_apply (i : Fin 512) (h : Fin 1024) :
    hop1 v w x e0 e1 e2 e3 e4 e5 e6 e7 r (ix3 0 i h) = r (ix3 0 i h) + part v w x e0 e1 e2 e3 e4 e5 e6 e7 i h := by
  unfold hop1
  unfold_payloads
  pointwise
  rfl

theorem hop2_apply (i : Fin 512) (h : Fin 1024) :
    hop2 v w x e0 e1 e2 e3 e4 e5 e6 e7 r (ix2 i h) = r (ix3 0 i h) + part v w x e0 e1 e2 e3 e4 e5 e6 e7 i h := by
  unfold hop2
  unfold_payloads
  pointwise
  rfl

end Hop

/-! ## The device's number -/

/-- Expert `j` of device `d`, among all. -/
def own (d : Fin 4) (j : Fin 8) : Fin 32 := ⟨8 * d.val + j.val, by omega⟩

theorem own_word : ∀ (c : Dev nD) (j : Fin 8) (k : Fin 32),
    BitVec.ofNat 32 k.val = Scalar.addi (Scalar.muli (me c) 8#32) (BitVec.ofNat 32 j.val) ↔ k = own c j := by decide +kernel

/-- A comparison's mask, as a choice. -/
theorem select_eq {α : Type} (a b : BitVec 32) (x y : α) : Scalar.select (IntOp.cmpi .eq a b) x y = if a = b then x else y := by
  by_cases h : a = b
  · rw [if_pos h]; simp [Scalar.select, IntOp.cmpi, h]
  · have hb : (a == b) = false := beq_eq_false_iff_ne.2 h
    rw [if_neg h]; simp [Scalar.select, IntOp.cmpi, hb]

theorem picked_own (c : Dev nD) (w : Vec Ideal S512x32 .f32) (j : Fin 8) (i : Fin 512) : picked (me c) w j.val i = w (ix2 i (own c j)) := by
  unfold picked
  rw [Finset.sum_eq_single (own c j)]
  · rw [select_eq, if_pos ((own_word c j _).2 rfl)]
  · intro k _ hk
    rw [select_eq, if_neg fun h => hk ((own_word c j k).1 h)]
  · exact fun h => absurd (Finset.mem_univ _) h

/-! ## The chunks -/

/-- Row `i` of chunk `q`. -/
def row (q : Fin 4) (i : Fin 512) : Fin 2048 := ⟨512 * q.val + i.val, by omega⟩

section Chunks
variable (m : (ℓ : Loc nD τ sig) → Buf (Elt Ideal) ℓ)

theorem wAt_apply (c : Dev nD) (q : Fin 4) (o : Fin 2 → ℕ) (ho : ∀ a, o a + S512x32.size a ≤ S2048x32.size a) (e : o = ![512 * q.val, 0])
    (i : Fin 512) (k : Fin 32) : wAt m c o ho (ix2 i k) = gates m c (ix2 (row q i) k) := by
  subst e
  refine congrArg (gates m c) (funext fun a => Fin.ext ?_)
  match a with
  | ⟨0, _⟩ => show 512 * q.val + 1 * i.val = 512 * q.val + i.val; omega
  | ⟨1, _⟩ => show 0 + 1 * k.val = k.val; omega

theorem xAt_apply (c : Dev nD) (q : Fin 4) (o : Fin 2 → ℕ) (ho : ∀ a, o a + S512x512.size a ≤ S2048x512.size a) (e : o = ![512 * q.val, 0])
    (i : Fin 512) (k : Fin 512) : xAt m c o ho (ix2 i k) = toks m c (ix2 (row q i) k) := by
  subst e
  refine congrArg (toks m c) (funext fun a => Fin.ext ?_)
  match a with
  | ⟨0, _⟩ => show 512 * q.val + 1 * i.val = 512 * q.val + i.val; omega
  | ⟨1, _⟩ => show 0 + 1 * k.val = k.val; omega

theorem mat_apply (c : Dev nD) (j : Fin 8) (ho : ∀ a, (![j.val, 0, 0] : Fin 3 → ℕ) a + S1x512x1024.size a ≤ S8x512x1024.size a) (k : Fin 512) (h : Fin 1024) :
    mat m ![j.val, 0, 0] ho c (ix3 0 k h) = mats m c (ix3 j k h) := by
  refine congrArg (mats m c) (funext fun a => Fin.ext ?_)
  match a with
  | ⟨0, _⟩ => show j.val + 1 * 0 = j.val; omega
  | ⟨1, _⟩ => show 0 + 1 * k.val = k.val; omega
  | ⟨2, _⟩ => show 0 + 1 * h.val = h.val; omega

/-- The gate weights, the tokens and the device's matrices, element by element. -/
def gateAt (d : Dev nD) (r : Fin 2048) (e : Fin 32) : EReal := gates m d (ix2 r e)
def tokAt (d : Dev nD) (r : Fin 2048) (k : Fin 512) : EReal := toks m d (ix2 r k)
def matAt (d : Dev nD) (j : Fin 8) (k : Fin 512) (h : Fin 1024) : EReal := mats m d (ix3 j k h)

/-- Device `d`'s partial product for row `r` of all tokens. -/
def dpart (d : Dev nD) (r : Fin 2048) (h : Fin 1024) : EReal :=
  ∑ j : Fin 8, gateAt m d r (own d j) * ∑ k : Fin 512, tokAt m d r k * matAt m d j k h

/-- One hop's partial product on device `c`, of the chunk it loads. -/
theorem part_chunk (c : Dev nD) (q : Fin 4) (o : Fin 2 → ℕ) (ho : ∀ a, o a + S512x32.size a ≤ S2048x32.size a) (e : o = ![512 * q.val, 0])
    (o' : Fin 2 → ℕ) (ho' : ∀ a, o' a + S512x512.size a ≤ S2048x512.size a) (e' : o' = ![512 * q.val, 0]) (i : Fin 512) (h : Fin 1024) :
    part (me c) (wAt m c o ho) (xAt m c o' ho') (mat0 m c) (mat1 m c) (mat2 m c) (mat3 m c) (mat4 m c) (mat5 m c) (mat6 m c) (mat7 m c) i h
      = dpart m c (row q i) h := by
  have P : ∀ j : Fin 8, picked (me c) (wAt m c o ho) j.val i = gateAt m c (row q i) (own c j) := fun j =>
    (picked_own ..).trans (wAt_apply m c q o ho e i _)
  have Q : ∀ (j : Fin 8) (hj : ∀ a, (![j.val, 0, 0] : Fin 3 → ℕ) a + S1x512x1024.size a ≤ S8x512x1024.size a),
      prod (xAt m c o' ho') (mat m ![j.val, 0, 0] hj c) i h = ∑ k : Fin 512, tokAt m c (row q i) k * matAt m c j k h := fun j hj => by
    unfold prod
    exact Finset.sum_congr rfl fun k _ => congr (congrArg HMul.hMul (xAt_apply m c q o' ho' e' i k)) (mat_apply m c j hj k h)
  have T : ∀ (j : Fin 8) (hj : ∀ a, (![j.val, 0, 0] : Fin 3 → ℕ) a + S1x512x1024.size a ≤ S8x512x1024.size a),
      picked (me c) (wAt m c o ho) j.val i * prod (xAt m c o' ho') (mat m ![j.val, 0, 0] hj c) i h
        = gateAt m c (row q i) (own c j) * ∑ k : Fin 512, tokAt m c (row q i) k * matAt m c j k h := fun j hj => by
    rw [P, Q]
  rw [dpart, Fin.sum_univ_eight]
  exact congr (congrArg HAdd.hAdd (congr (congrArg HAdd.hAdd (congr (congrArg HAdd.hAdd (congr (congrArg HAdd.hAdd (congr (congrArg HAdd.hAdd
    (congr (congrArg HAdd.hAdd (congr (congrArg HAdd.hAdd (T 0 _)) (T 1 _))) (T 2 _))) (T 3 _))) (T 4 _))) (T 5 _))) (T 6 _))) (T 7 _)

/-! ## The ring -/

theorem off1_chunk (c : Dev nD) : k0_off1 c = ![512 * (prv c).val, 0] := k0_off1_eq c
theorem off2_chunk (c : Dev nD) : k0_off2 c = ![512 * (prv c).val, 0] := k0_off2_eq c
theorem off3_chunk0 : ∀ c : Dev nD, k0_off3 c 0#32 = ![512 * (prv (prv c)).val, 0] := by decide +kernel
theorem off4_chunk0 : ∀ c : Dev nD, k0_off4 c 0#32 = ![512 * (prv (prv c)).val, 0] := by decide +kernel
theorem off3_chunk1 : ∀ c : Dev nD, k0_off3 c 1#32 = ![512 * (prv (prv (prv c))).val, 0] := by decide +kernel
theorem off4_chunk1 : ∀ c : Dev nD, k0_off4 c 1#32 = ![512 * (prv (prv (prv c))).val, 0] := by decide +kernel
theorem off3_chunk2 : ∀ c : Dev nD, k0_off3 c 2#32 = ![512 * c.val, 0] := by decide +kernel
theorem off4_chunk2 : ∀ c : Dev nD, k0_off4 c 2#32 = ![512 * c.val, 0] := by decide +kernel

theorem prv4 (c : Dev nD) : prv (prv (prv (prv c))) = c := by revert c; decide

theorem held0_apply (c : Dev nD) (i : Fin 512) (h : Fin 1024) : held0 m c (ix3 0 i h) = dpart m c (row (prv c) i) h :=
  (start0_apply ..).trans (part_chunk m c (prv c) _ _ (off1_chunk c) _ _ (off2_chunk c) i h)

theorem held1_apply (c : Dev nD) (i : Fin 512) (h : Fin 1024) :
    (held1 m c (ix3 0 i h) : EReal) = held0 m (prv c) (ix3 0 i h) + dpart m c (row (prv (prv c)) i) h :=
  (hop0_apply ..).trans (congrArg _ (part_chunk m c (prv (prv c)) _ _ (off3_chunk0 c) _ _ (off4_chunk0 c) i h))

theorem held2_apply (c : Dev nD) (i : Fin 512) (h : Fin 1024) :
    (held2 m c (ix3 0 i h) : EReal) = held1 m (prv c) (ix3 0 i h) + dpart m c (row (prv (prv (prv c))) i) h :=
  (hop1_apply ..).trans (congrArg _ (part_chunk m c (prv (prv (prv c))) _ _ (off3_chunk1 c) _ _ (off4_chunk1 c) i h))

/-- The result: every device's partial product of the chunk, the right neighbour's first. -/
theorem outAt_ring (c : Dev nD) (i : Fin 512) (h : Fin 1024) :
    (outAt m c (ix2 i h) : EReal) = dpart m (prv (prv (prv c))) (row c i) h + dpart m (prv (prv c)) (row c i) h + dpart m (prv c) (row c i) h
      + dpart m c (row c i) h := by
  refine (hop2_apply ..).trans ((congrArg _ (part_chunk m c c _ _ (off3_chunk2 c) _ _ (off4_chunk2 c) i h)).trans ?_)
  rw [held2_apply, held1_apply, held0_apply, prv4]

/-- In the devices' order. -/
theorem outAt_apply (c : Dev nD) (i : Fin 512) (h : Fin 1024) : (outAt m c (ix2 i h) : EReal) = ∑ d : Dev nD, dpart m d (row c i) h := by
  have S : ∀ f : Dev nD → EReal, f (prv (prv (prv c))) + f (prv (prv c)) + f (prv c) + f c = ∑ d : Dev nD, f d := fun f => by
    have e : (∑ d : Dev nD, f d) = f 0 + f 1 + f 2 + f 3 := Fin.sum_univ_four f
    rw [e]
    have U : c = 0 ∨ c = 1 ∨ c = 2 ∨ c = 3 := by revert c; decide
    rcases U with rfl | rfl | rfl | rfl
    · rw [show prv (0 : Dev nD) = 3 by decide, show prv (3 : Dev nD) = 2 by decide, show prv (2 : Dev nD) = 1 by decide]; ac_rfl
    · rw [show prv (1 : Dev nD) = 0 by decide, show prv (0 : Dev nD) = 3 by decide, show prv (3 : Dev nD) = 2 by decide]; ac_rfl
    · rw [show prv (2 : Dev nD) = 1 by decide, show prv (1 : Dev nD) = 0 by decide, show prv (0 : Dev nD) = 3 by decide]; ac_rfl
    · rw [show prv (3 : Dev nD) = 2 by decide, show prv (2 : Dev nD) = 1 by decide, show prv (1 : Dev nD) = 0 by decide]
  exact (outAt_ring m c i h).trans (S fun d => dpart m d (row c i) h)

end Chunks

end Cert.KernelIdeal.MoE

end
-- ==== Proof.Spec.lean ====
/-
The mixture of experts as plain mathematics on the extended reals, and the two facts about it the value proof needs.

`prob X R r e` is the softmax of token `r`'s router scores at expert `e`, with the row's maximum subtracted;
`gate p a b` spreads the two selected experts' normalised weights over all experts, zero at the others; `expert X E r e h`
is token `r`'s product with expert `e`'s matrix; `out` is the result both programs compute.

* With finite tokens and router weights every `prob` is a positive real (`prob_pos`): the scores are reals, so is their
  maximum, and a sum of exponentials is positive.
* A sum over all experts weighted by `gate` is the sum of its two selected terms (`sum_gate`): the weight of any other is
  `0` divided by a positive real, and `0 * y = 0` for an infinite `y` too, so nothing is asked of the experts' products.
-/
module

public import Idealize.ShloMosaic.Lib.Pointwise

@[expose] public section

noncomputable section

namespace Cert.MoE

open Idealize.ShloMosaic

/-- The word for negative infinity, from which the maximum starts. -/
abbrev low : EReal := Ideal.ofBits .f32 0xFF800000#32

section Defs
variable (X : Fin 2048 → Fin 512 → EReal) (R : Fin 512 → Fin 32 → EReal) (E : Fin 32 → Fin 512 → Fin 1024 → EReal)

def score (r : Fin 2048) (e : Fin 32) : EReal := ∑ k, X r k * R k e
def top (r : Fin 2048) : EReal := Finset.univ.fold max low fun e => score X R r e
def raised (r : Fin 2048) (e : Fin 32) : EReal := Ideal.exp (score X R r e - top X R r)
def prob (r : Fin 2048) (e : Fin 32) : EReal := Ideal.div (raised X R r e) (∑ e', raised X R r e')

/-- The weights of all experts, `a` and `b` the selected ones. -/
def gate (p : Fin 32 → EReal) (a b e : Fin 32) : EReal := Ideal.div (if e = a ∨ e = b then p e else 0) (p a + p b)

def expert (r : Fin 2048) (e : Fin 32) (h : Fin 1024) : EReal := ∑ k, X r k * E e k h

/-- Token `r`'s result in column `h`, its two experts being `a` and `b`. -/
def out (r : Fin 2048) (a b : Fin 32) (h : Fin 1024) : EReal :=
  Ideal.div (prob X R r a) (prob X R r a + prob X R r b) * expert X E r a h
    + Ideal.div (prob X R r b) (prob X R r a + prob X R r b) * expert X E r b h

end Defs

/-! ## The softmax of finite scores -/

theorem low_eq : low = ⊥ := by
  simp [Ideal.ofBits, Ideal.ieee]

theorem real_of_ne {x : EReal} (hb : x ≠ ⊥) (ht : x ≠ ⊤) : ∃ q : ℝ, x = (q : EReal) :=
  ⟨x.toReal, (EReal.coe_toReal ht hb).symm⟩

/-- A finite sum of reals is a real. -/
theorem sum_real {ι : Type} [Fintype ι] {f : ι → EReal} (hf : ∀ i, ∃ q : ℝ, f i = (q : EReal)) : ∃ q : ℝ, ∑ i, f i = (q : EReal) := by
  choose g hg using hf
  refine ⟨∑ i, g i, ?_⟩
  rw [Finset.sum_congr rfl fun i _ => hg i]
  exact (map_sum (⟨⟨fun q : ℝ => (q : EReal), rfl⟩, EReal.coe_add⟩ : ℝ →+ EReal) g Finset.univ).symm

/-- and of positive reals, over a type that is not empty, a positive one. -/
theorem sum_pos_real {ι : Type} [Fintype ι] [Nonempty ι] {f : ι → EReal} (hf : ∀ i, ∃ q : ℝ, 0 < q ∧ f i = (q : EReal)) :
    ∃ q : ℝ, 0 < q ∧ ∑ i, f i = (q : EReal) := by
  choose g hp hg using hf
  refine ⟨∑ i, g i, Finset.sum_pos (fun i _ => hp i) Finset.univ_nonempty, ?_⟩
  rw [Finset.sum_congr rfl fun i _ => hg i]
  exact (map_sum (⟨⟨fun q : ℝ => (q : EReal), rfl⟩, EReal.coe_add⟩ : ℝ →+ EReal) g Finset.univ).symm

theorem div_real {p q : ℝ} (hq : 0 < q) : Ideal.div (p : EReal) (q : EReal) = ((p / q : ℝ) : EReal) := by
  rw [Ideal.div_coe (ne_of_gt hq), ← EReal.coe_mul, mul_one_div]

section Finite
variable {X : Fin 2048 → Fin 512 → EReal} {R : Fin 512 → Fin 32 → EReal}
variable (hX : ∀ r k, ∃ q : ℝ, X r k = (q : EReal)) (hR : ∀ k e, ∃ q : ℝ, R k e = (q : EReal))
include hX hR

theorem score_real (r : Fin 2048) (e : Fin 32) : ∃ q : ℝ, score X R r e = (q : EReal) :=
  sum_real fun k => by
    obtain ⟨p, hp⟩ := hX r k
    obtain ⟨q, hq⟩ := hR k e
    exact ⟨p * q, by rw [hp, hq, EReal.coe_mul]⟩

theorem top_real (r : Fin 2048) : ∃ q : ℝ, top X R r = (q : EReal) := by
  refine real_of_ne (fun h => ?_) (fun h => ?_)
  · obtain ⟨q, hq⟩ := score_real hX hR r 0
    have h0 : score X R r 0 ≤ top X R r := (Finset.le_fold_max _).2 (.inr ⟨0, Finset.mem_univ _, le_rfl⟩)
    rw [h, hq, le_bot_iff] at h0
    exact EReal.coe_ne_bot q h0
  · have h1 : top X R r < ⊤ := (Finset.fold_max_lt _).2 ⟨by rw [low_eq]; exact bot_lt_top, fun e _ => by
      obtain ⟨q, hq⟩ := score_real hX hR r e
      rw [hq]; exact EReal.coe_lt_top q⟩
    exact h1.ne h

theorem raised_pos (r : Fin 2048) (e : Fin 32) : ∃ q : ℝ, 0 < q ∧ raised X R r e = (q : EReal) := by
  obtain ⟨p, hp⟩ := score_real hX hR r e
  obtain ⟨q, hq⟩ := top_real hX hR r
  refine ⟨Real.exp (p - q), Real.exp_pos _, ?_⟩
  rw [raised, hp, hq, ← EReal.coe_sub, Ideal.exp_coe]

theorem prob_pos (r : Fin 2048) (e : Fin 32) : ∃ q : ℝ, 0 < q ∧ prob X R r e = (q : EReal) := by
  obtain ⟨p, hp, ep⟩ := raised_pos hX hR r e
  obtain ⟨q, hq, eq⟩ := sum_pos_real (raised_pos hX hR r)
  exact ⟨p / q, div_pos hp hq, by rw [prob, ep, eq, div_real hq]⟩

end Finite

/-! ## The weighted sum over all experts -/

theorem sum_gate {p : Fin 32 → EReal} (hp : ∀ e, ∃ q : ℝ, 0 < q ∧ p e = (q : EReal)) {a b : Fin 32} (hab : a ≠ b) (Y : Fin 32 → EReal) :
    ∑ e, gate p a b e * Y e = Ideal.div (p a) (p a + p b) * Y a + Ideal.div (p b) (p a + p b) * Y b := by
  obtain ⟨s, hs, es⟩ : ∃ s : ℝ, 0 < s ∧ p a + p b = (s : EReal) := by
    obtain ⟨x, hx, ex⟩ := hp a
    obtain ⟨y, hy, ey⟩ := hp b
    exact ⟨x + y, add_pos hx hy, by rw [ex, ey, EReal.coe_add]⟩
  have hout : ∀ e ∈ Finset.univ, e ∉ ({a, b} : Finset (Fin 32)) → gate p a b e * Y e = 0 := fun e _ he => by
    have h : ¬(e = a ∨ e = b) := fun h => he (by simpa using h)
    rw [gate, if_neg h, es, Ideal.div_coe (ne_of_gt hs), zero_mul, zero_mul]
  rw [← Finset.sum_subset (Finset.subset_univ ({a, b} : Finset (Fin 32))) hout, Finset.sum_pair hab]
  rw [gate, gate, if_pos (.inl rfl), if_pos (.inr rfl)]

/-- So the result is the sum, over all experts, of the weighted products. -/
theorem out_eq_sum {X : Fin 2048 → Fin 512 → EReal} {R : Fin 512 → Fin 32 → EReal} (E : Fin 32 → Fin 512 → Fin 1024 → EReal)
    (hX : ∀ r k, ∃ q : ℝ, X r k = (q : EReal)) (hR : ∀ k e, ∃ q : ℝ, R k e = (q : EReal)) (r : Fin 2048) {a b : Fin 32} (hab : a ≠ b)
    (h : Fin 1024) : out X R E r a b h = ∑ e, gate (prob X R r) a b e * expert X E r e h :=
  (sum_gate (prob_pos hX hR r) hab fun e => expert X E r e h).symm

end Cert.MoE

end
-- ==== Proof.Gates.lean ====
/-
What the kernel keeps of its operands, in exact arithmetic: the gate weights are the specification's `gate` of its
`prob`, the tokens and the expert matrices the arguments themselves.
-/
module

public import proofs.«01_k».proof.Proof.Hop
public import proofs.«01_k».proof.Proof.Spec

@[expose] public section

noncomputable section

namespace Cert.KernelIdeal.MoE

open Cert.KernelIdeal Cert.KernelIdeal.Gen Cert.MoE
open Idealize.ShloMosaic
open Idealize.ShloMosaic.TcCoe

/-- Two comparisons' masks joined, as a choice. -/
theorem select_or {α : Type} (a b a' b' : BitVec 32) (x y : α) :
    Scalar.select (IntOp.ori (IntOp.cmpi .eq a b) (IntOp.cmpi .eq a' b')) x y = if a = b ∨ a' = b' then x else y := by
  by_cases h : a = b <;> by_cases h' : a' = b' <;> simp [Scalar.select, IntOp.cmpi, IntOp.ori, h, h', beq_eq_false_iff_ne.2]

/-- A column's number and an expert's: equal as words exactly when equal. -/
theorem word_inj : ∀ k e : Fin 32, BitVec.ofNat 32 k.val = BitVec.ofNat 32 e.val ↔ k = e := by decide +kernel

/-- A row summed with every column but `a` masked. -/
theorem sum_masked (f : Fin 32 → EReal) (a : Fin 32) (w : BitVec 32) (hw : w = BitVec.ofNat 32 a.val) :
    ∑ k : Fin 32, Scalar.select (IntOp.cmpi .eq (BitVec.ofNat 32 k.val) w) (f k) 0 = f a := by
  subst hw
  rw [Finset.sum_eq_single a]
  · rw [select_eq, if_pos rfl]
  · intro k _ hk
    rw [select_eq, if_neg fun h => hk ((word_inj k a).1 h)]
  · exact fun h => absurd (Finset.mem_univ _) h

section Payload
variable (X : Vec Ideal S2048x512 .bf16) (R : Vec Ideal S512x32 .bf16) (I J : Vec Ideal S2048x1 .i32)

/-- The gate weights as the kernel computes them, before its masks are read as choices. -/
theorem gate_payload (r : Fin 2048) (e : Fin 32) :
    (k0_pay4 (k0_pay2 X R) (iota .tc S2048x32 32 [1] iota_S2048x32_d1_w32) (k0_pay3 I) J (ix2 r e) : EReal)
      = Ideal.div
          (Scalar.select (IntOp.ori (IntOp.cmpi .eq (BitVec.ofNat 32 e.val) (I (ix2 r 0))) (IntOp.cmpi .eq (BitVec.ofNat 32 e.val) (J (ix2 r 0))))
            (prob (fun r k => X (ix2 r k)) (fun k e => R (ix2 k e)) r e) 0)
          ((∑ k : Fin 32, Scalar.select (IntOp.cmpi .eq (BitVec.ofNat 32 k.val) (I (ix2 r 0))) (prob (fun r k => X (ix2 r k)) (fun k e => R (ix2 k e)) r k) 0)
            + ∑ k : Fin 32, Scalar.select (IntOp.cmpi .eq (BitVec.ofNat 32 k.val) (J (ix2 r 0))) (prob (fun r k => X (ix2 r k)) (fun k e => R (ix2 k e)) r k) 0) := by
  unfold_payloads
  pointwise
  rfl

theorem gate_apply (r : Fin 2048) (e a b : Fin 32) (ha : I (ix2 r 0) = BitVec.ofNat 32 a.val) (hb : J (ix2 r 0) = BitVec.ofNat 32 b.val) :
    (k0_pay4 (k0_pay2 X R) (iota .tc S2048x32 32 [1] iota_S2048x32_d1_w32) (k0_pay3 I) J (ix2 r e) : EReal)
      = gate (prob (fun r k => X (ix2 r k)) (fun k e => R (ix2 k e)) r) a b e := by
  rw [gate_payload, sum_masked _ a _ ha, sum_masked _ b _ hb, select_or, ha, hb, gate]
  congr 1
  exact if_congr (or_congr (word_inj e a) (word_inj e b)) rfl rfl

end Payload

section Operands
variable (m : (ℓ : Loc nD τ sig) → Buf (Elt Ideal) ℓ)

/-- A staged operand's block is its whole array. -/
theorem xin_emb (y : S2048x512.Idx) : (win0_0.blk (0 : Fin 1)).view.emb y = y :=
  funext fun a => Fin.ext (win0_0.rect_emb_val_of_index_zero (0 : Fin 1) a rfl y)
theorem rwin_emb (y : S512x32.Idx) : (win0_1.blk (0 : Fin 1)).view.emb y = y :=
  funext fun a => Fin.ext (win0_1.rect_emb_val_of_index_zero (0 : Fin 1) a rfl y)
theorem riin_emb (y : S2048x2.Idx) : (win0_2.blk (0 : Fin 1)).view.emb y = y :=
  funext fun a => Fin.ext (win0_2.rect_emb_val_of_index_zero (0 : Fin 1) a rfl y)
theorem mats_emb (y : S8x512x1024.Idx) : (win0_3.blk (0 : Fin 1)).view.emb y = y :=
  funext fun a => Fin.ext (win0_3.rect_emb_val_of_index_zero (0 : Fin 1) a rfl y)

theorem ldX_apply (c : Dev nD) (r : Fin 2048) (k : Fin 512) : ldX m c (ix2 r k) = m ((c : Thread nD τ).loc main_arg0) (ix2 r k) := by
  refine (congrArg (xin m c) (?_ : _ = ix2 r k)).trans (congrArg (m ((c : Thread nD τ).loc main_arg0)) (xin_emb (ix2 r k)))
  refine funext fun a => Fin.ext ?_
  match a with
  | ⟨0, _⟩ => show 0 + 1 * r.val = r.val; omega
  | ⟨1, _⟩ => show 0 + 1 * k.val = k.val; omega

theorem ldR_apply (c : Dev nD) (k : Fin 512) (e : Fin 32) : ldR m c (ix2 k e) = m ((c : Thread nD τ).loc main_arg1) (ix2 k e) := by
  refine (congrArg (rwin m c) (?_ : _ = ix2 k e)).trans (congrArg (m ((c : Thread nD τ).loc main_arg1)) (rwin_emb (ix2 k e)))
  refine funext fun a => Fin.ext ?_
  match a with
  | ⟨0, _⟩ => show 0 + 1 * k.val = k.val; omega
  | ⟨1, _⟩ => show 0 + 1 * e.val = e.val; omega

theorem ldI0_apply (c : Dev nD) (r : Fin 2048) : ldI0 m c (ix2 r 0) = m ((c : Thread nD τ).loc main_arg2) (ix2 r 0) := by
  refine (congrArg (riin m c) (?_ : _ = ix2 r 0)).trans (congrArg (m ((c : Thread nD τ).loc main_arg2)) (riin_emb (ix2 r 0)))
  refine funext fun a => Fin.ext ?_
  match a with
  | ⟨0, _⟩ => show 0 + 1 * r.val = r.val; omega
  | ⟨1, _⟩ => rfl

theorem ldI1_apply (c : Dev nD) (r : Fin 2048) : ldI1 m c (ix2 r 0) = m ((c : Thread nD τ).loc main_arg2) (ix2 r 1) := by
  refine (congrArg (riin m c) (?_ : _ = ix2 r 1)).trans (congrArg (m ((c : Thread nD τ).loc main_arg2)) (riin_emb (ix2 r 1)))
  refine funext fun a => Fin.ext ?_
  match a with
  | ⟨0, _⟩ => show 0 + 1 * r.val = r.val; omega
  | ⟨1, _⟩ => rfl

theorem matAt_eq (d : Dev nD) (j : Fin 8) (k : Fin 512) (h : Fin 1024) : matAt m d j k h = m ((d : Thread nD τ).loc main_arg3) (ix3 j k h) :=
  congrArg (m ((d : Thread nD τ).loc main_arg3)) (mats_emb (ix3 j k h))

theorem tokAt_eq (d : Dev nD) (r : Fin 2048) (k : Fin 512) : tokAt m d r k = m ((d : Thread nD τ).loc main_arg0) (ix2 r k) := by
  have e : (k0_pay5 (k0_pay1 (ldX m d)) (ix2 r k) : EReal) = ldX m d (ix2 r k) := by
    unfold_payloads
    pointwise
  exact e.trans (ldX_apply m d r k)

theorem gateAt_eq (d : Dev nD) (r : Fin 2048) (e a b : Fin 32) (ha : m ((d : Thread nD τ).loc main_arg2) (ix2 r 0) = BitVec.ofNat 32 a.val)
    (hb : m ((d : Thread nD τ).loc main_arg2) (ix2 r 1) = BitVec.ofNat 32 b.val) :
    gateAt m d r e = gate (prob (fun r k => m ((d : Thread nD τ).loc main_arg0) (ix2 r k)) (fun k e => m ((d : Thread nD τ).loc main_arg1) (ix2 k e)) r) a b e := by
  refine (gate_apply (ldX m d) (ldR m d) (ldI0 m d) (ldI1 m d) r e a b ((ldI0_apply m d r).trans ha) ((ldI1_apply m d r).trans hb)).trans ?_
  have hX : (fun (r : Fin 2048) (k : Fin 512) => (ldX m d (ix2 r k) : EReal)) = fun r k => m ((d : Thread nD τ).loc main_arg0) (ix2 r k) :=
    funext fun r => funext fun k => ldX_apply m d r k
  have hR : (fun (k : Fin 512) (e : Fin 32) => (ldR m d (ix2 k e) : EReal)) = fun k e => m ((d : Thread nD τ).loc main_arg1) (ix2 k e) :=
    funext fun k => funext fun e => ldR_apply m d k e
  rw [hX, hR]

end Operands

/-! ## The result -/

/-- Expert `j` of device `d`, for all devices and experts: every expert once. -/
theorem sum_own (f : Fin 32 → EReal) : ∑ d : Fin 4, ∑ j : Fin 8, f (own d j) = ∑ e : Fin 32, f e := by
  rw [← Fintype.sum_prod_type' fun (d : Fin 4) (j : Fin 8) => f (own d j)]
  refine Fintype.sum_equiv (finProdFinEquiv (m := 4) (n := 8)) _ f fun p => congrArg f (Fin.ext ?_)
  show 8 * p.1.val + p.2.val = p.2.val + 8 * p.1.val
  omega

section Result
variable (m : (ℓ : Loc nD τ sig) → Buf (Elt Ideal) ℓ)
variable (X : Fin 2048 → Fin 512 → EReal) (R : Fin 512 → Fin 32 → EReal) (E : Fin 32 → Fin 512 → Fin 1024 → EReal) (a b : Fin 2048 → Fin 32)

/-- On operands that are the specification's, the experts' dealt out over the devices, every device's result is its
    chunk of the specification's. -/
theorem outAt_eq
    (hX : ∀ (d : Dev nD) (r : Fin 2048) (k : Fin 512), m ((d : Thread nD τ).loc main_arg0) (ix2 r k) = X r k)
    (hR : ∀ (d : Dev nD) (k : Fin 512) (e : Fin 32), m ((d : Thread nD τ).loc main_arg1) (ix2 k e) = R k e)
    (hI : ∀ (d : Dev nD) (r : Fin 2048), m ((d : Thread nD τ).loc main_arg2) (ix2 r 0) = BitVec.ofNat 32 (a r).val)
    (hJ : ∀ (d : Dev nD) (r : Fin 2048), m ((d : Thread nD τ).loc main_arg2) (ix2 r 1) = BitVec.ofNat 32 (b r).val)
    (hE : ∀ (d : Dev nD) (j : Fin 8) (k : Fin 512) (h : Fin 1024), m ((d : Thread nD τ).loc main_arg3) (ix3 j k h) = E (own d j) k h)
    (fX : ∀ r k, ∃ q : ℝ, X r k = (q : EReal)) (fR : ∀ k e, ∃ q : ℝ, R k e = (q : EReal)) (hab : ∀ r, a r ≠ b r)
    (c : Dev nD) (i : Fin 512) (h : Fin 1024) :
    (outAt m c (ix2 i h) : EReal) = out X R E (row c i) (a (row c i)) (b (row c i)) h := by
  have D : ∀ (d : Dev nD) (r : Fin 2048),
      dpart m d r h = ∑ j : Fin 8, (fun e => gate (prob X R r) (a r) (b r) e * expert X E r e h) (own d j) := fun d r => by
    have eX : (fun (r : Fin 2048) (k : Fin 512) => (m ((d : Thread nD τ).loc main_arg0) (ix2 r k) : EReal)) = X :=
      funext fun r => funext fun k => hX d r k
    have eR : (fun (k : Fin 512) (e : Fin 32) => (m ((d : Thread nD τ).loc main_arg1) (ix2 k e) : EReal)) = R :=
      funext fun k => funext fun e => hR d k e
    refine Finset.sum_congr rfl fun j _ => congr (congrArg HMul.hMul ?_) (Finset.sum_congr rfl fun k _ => congr (congrArg HMul.hMul ?_) ?_)
    · rw [gateAt_eq m d r (own d j) (a r) (b r) (hI d r) (hJ d r), eX, eR]
    · exact (tokAt_eq m d r k).trans (hX d r k)
    · exact (matAt_eq m d j k h).trans (hE d j k h)
  refine (outAt_apply m c i h).trans ((Finset.sum_congr rfl fun d _ => D d (row c i)).trans ?_)
  rw [out_eq_sum E fX fR (row c i) (hab (row c i)) h]
  exact sum_own fun e => gate (prob X R (row c i)) (a (row c i)) (b (row c i)) e * expert X E (row c i) e h

end Result

end Cert.KernelIdeal.MoE

end
-- ==== Proof.RefValue.lean ====
/-
The reference's result, element by element: the specification's `out` of the arguments (`result_apply`).

The composed term is named piece by piece (`probs`, `column`, `weight`, `product`), so that each piece is read once. The
two gathers are read from their dimension numbers: of the probabilities at the pairs (row, expert), one element each
(`gather_pair`); of the expert matrices at the expert, a whole matrix each (`gather_matrix`). The experts' numbers are in
range, so neither gather's clamp moves an index.
-/
module

public import proofs.«01_k».proof.Proof.Gen.ReferenceIdeal.Run
public import proofs.«01_k».proof.Proof.Spec

@[expose] public section

noncomputable section

namespace Cert.ReferenceIdeal.MoE

open Cert.ReferenceIdeal Cert.ReferenceIdeal.Gen Cert.ReferenceIdeal.Value Cert.MoE
open Idealize.ShloMosaic
open Idealize.ShloMosaic.TcCoe

/-! ## The pieces of the term -/

section Pieces
variable (X : FVec Ideal S2048x512 .bf16) (R : FVec Ideal S512x32 .bf16) (I : IVec S2048x2 32) (E : FVec Ideal S32x512x1024 .bf16)

def logits : FVec Ideal S2048x32 .f32 :=
  Host.dotGeneral dot_S2048x512_S512x32_S2048x32_1_0_0_1_n_n none (extf .f32 X bitsLt_bf16_f32) (extf .f32 R bitsLt_bf16_f32)

def powers : FVec Ideal S2048x32 .f32 :=
  Host.exp (subf (logits X R) (broadcastInDim S2048x32 ![0, 1] bcast_S2048x1_S2048x32_0_1 (broadcastInDim S2048x1 ![0] bcast_S2048_S2048x1_0
    (Host.reduce FloatOps.maximumf (logits X R) (constant S_ .f32 0xFF800000#32) reducesTo_S2048x32_S2048_d1 h_S_))))

def probs : FVec Ideal S2048x32 .f32 :=
  Host.divf (powers X R) (broadcastInDim S2048x32 ![0, 1] bcast_S2048x1_S2048x32_0_1 (broadcastInDim S2048x1 ![0] bcast_S2048_S2048x1_0
    (Host.reduceAdd (powers X R) (constant S_ .f32 0x00000000#32) reducesTo_S2048x32_S2048_d1 h_S_)))

/-- The tokens' first experts, and their second ones. -/
def column0 : IVec S2048 32 := shapeCast S2048 (extractStridedSlice S2048x1 ![0, 0] I slices_S2048x2_S2048x1_0_0) shapeCasts_S2048x1_S2048
def column1 : IVec S2048 32 := shapeCast S2048 (extractStridedSlice S2048x1 ![0, 1] I slices_S2048x2_S2048x1_0_1) shapeCasts_S2048x1_S2048

/-- The pairs (row, expert), -/
def pairs (C : IVec S2048 32) : IVec S2048x2 32 :=
  concatenate S2048x2 1 [⟨S2048x1, broadcastInDim S2048x1 ![0] bcast_S2048_S2048x1_0 (iotaInDim S2048 32 0)⟩,
    ⟨S2048x1, broadcastInDim S2048x1 ![0] bcast_S2048_S2048x1_0 C⟩] concatenates_S2048x1_S2048x1_S2048x2_d1

/-- the probabilities there, and every token's product with its expert's matrix. -/
def weight (C : IVec S2048 32) : FVec Ideal S2048x1 .f32 :=
  broadcastInDim S2048x1 ![0] bcast_S2048_S2048x1_0 (Host.gather gather_S2048x32_S2048x2_S2048_n_01_n_n_01_1_11 (probs X R) (pairs C))
def product (C : IVec S2048 32) : FVec Ideal S2048x1024 .f32 :=
  Host.dotGeneral dot_S2048x512_S2048x512x1024_S2048x1024_1_1_n_2_0_0 none (extf .f32 X bitsLt_bf16_f32)
    (Host.gather gather_S32x512x1024_S2048x1_S2048x512x1024_12_0_n_n_0_1_15121024 (extf .f32 E bitsLt_bf16_f32)
      (broadcastInDim S2048x1 ![0] bcast_S2048_S2048x1_0 C))

/-- The result of the two experts' weights and products. -/
def mixed (g0 g1 : FVec Ideal S2048x1 .f32) (y0 y1 : FVec Ideal S2048x1024 .f32) : FVec Ideal S2048x1024 .f32 :=
  addf (mulf (broadcastInDim S2048x1024 ![0, 1] bcast_S2048x1_S2048x1024_0_1 (Host.divf g0 (addf g0 g1))) y0)
    (mulf (broadcastInDim S2048x1024 ![0, 1] bcast_S2048x1_S2048x1024_0_1 (Host.divf g1 (addf g0 g1))) y1)

end Pieces

theorem result_eq (m : (ℓ : Loc nD τ sig) → Buf (Elt Ideal) ℓ) (c : Dev nD) :
    res_main_v41 m c
      = mixed (weight (m ((c.tc : Thread nD τ).loc main_arg0)) (m ((c.tc : Thread nD τ).loc main_arg1)) (column0 (m ((c.tc : Thread nD τ).loc main_arg2))))
          (weight (m ((c.tc : Thread nD τ).loc main_arg0)) (m ((c.tc : Thread nD τ).loc main_arg1)) (column1 (m ((c.tc : Thread nD τ).loc main_arg2))))
          (product (m ((c.tc : Thread nD τ).loc main_arg0)) (m ((c.tc : Thread nD τ).loc main_arg3)) (column0 (m ((c.tc : Thread nD τ).loc main_arg2))))
          (product (m ((c.tc : Thread nD τ).loc main_arg0)) (m ((c.tc : Thread nD τ).loc main_arg3)) (column1 (m ((c.tc : Thread nD τ).loc main_arg2)))) := rfl

/-! ## The pieces at an index -/

section Read
variable (X : FVec Ideal S2048x512 .bf16) (R : FVec Ideal S512x32 .bf16) (I : IVec S2048x2 32) (E : FVec Ideal S32x512x1024 .bf16)

theorem probs_apply (r : Fin 2048) (e : Fin 32) : (probs X R (ix2 r e) : EReal) = prob (fun r k => X (ix2 r k)) (fun k e => R (ix2 k e)) r e := by
  pointwise [probs, powers, logits]
  rfl

theorem column0_apply (r : Fin 2048) : column0 I (ix1 r) = I (ix2 r 0) := by
  pointwise [column0]
theorem column1_apply (r : Fin 2048) : column1 I (ix1 r) = I (ix2 r 1) := by
  pointwise [column1]

theorem pairs_row (C : IVec S2048 32) (r : Fin 2048) : pairs C (ix2 r 0) = BitVec.ofNat 32 r.val := by
  pointwise [pairs]
theorem pairs_expert (C : IVec S2048 32) (r : Fin 2048) : pairs C (ix2 r 1) = C (ix1 r) := by
  pointwise [pairs]

/-- A small number's word read signed is the number. -/
theorem word_toNat {n : ℕ} (h : n < 2 ^ 31) : (BitVec.ofNat 32 n).toInt.toNat = n := by
  rw [BitVec.toInt_eq_toNat_of_lt (by rw [BitVec.toNat_ofNat]; omega), BitVec.toNat_ofNat]
  omega

/-- One element at each pair. -/
theorem gather_pair (x : FVec Ideal S2048x32 .f32) (idx : IVec S2048x2 32) (r s : Fin 2048) (e : Fin 32)
    (h0 : idx (ix2 r 0) = BitVec.ofNat 32 s.val) (h1 : idx (ix2 r 1) = BitVec.ofNat 32 e.val) :
    Host.gather gather_S2048x32_S2048x2_S2048_n_01_n_n_01_1_11 x idx (ix1 r) = x (ix2 s e) := by
  have i0 : ∀ h, gather_S2048x32_S2048x2_S2048_n_01_n_n_01_1_11.siIdx (ix1 r) ⟨0, h⟩ = ix2 r 0 := fun h => funext fun a =>
    match a with | ⟨0, _⟩ => rfl | ⟨1, _⟩ => rfl
  have i1 : ∀ h, gather_S2048x32_S2048x2_S2048_n_01_n_n_01_1_11.siIdx (ix1 r) ⟨1, h⟩ = ix2 r 1 := fun h => funext fun a =>
    match a with | ⟨0, _⟩ => rfl | ⟨1, _⟩ => rfl
  refine congrArg x (funext fun a => Fin.ext ?_)
  match a with
  | ⟨0, _⟩ =>
    have t : ∀ l, min (idx (gather_S2048x32_S2048x2_S2048_n_01_n_n_01_1_11.siIdx (ix1 r) ⟨0, l⟩)).toInt.toNat 2047 = s.val := fun l => by
      rw [i0, h0, word_toNat (by omega)]
      omega
    exact t _
  | ⟨1, _⟩ =>
    have t : ∀ l, min (idx (gather_S2048x32_S2048x2_S2048_n_01_n_n_01_1_11.siIdx (ix1 r) ⟨1, l⟩)).toInt.toNat 31 = e.val := fun l => by
      rw [i1, h1, word_toNat (by omega)]
      omega
    exact t _

/-- One matrix at each number. -/
theorem gather_matrix (x : FVec Ideal S32x512x1024 .f32) (idx : IVec S2048x1 32) (r : Fin 2048) (e : Fin 32) (k : Fin 512) (h : Fin 1024)
    (h0 : idx (ix2 r 0) = BitVec.ofNat 32 e.val) :
    Host.gather gather_S32x512x1024_S2048x1_S2048x512x1024_12_0_n_n_0_1_15121024 x idx (ix3 r k h) = x (ix3 e k h) := by
  have i0 : ∀ h', gather_S32x512x1024_S2048x1_S2048x512x1024_12_0_n_n_0_1_15121024.siIdx (ix3 r k h) ⟨0, h'⟩ = ix2 r 0 := fun h' => funext fun a =>
    match a with | ⟨0, _⟩ => rfl | ⟨1, _⟩ => rfl
  refine congrArg x (funext fun a => Fin.ext ?_)
  match a with
  | ⟨0, _⟩ =>
    have t : ∀ l, min (idx (gather_S32x512x1024_S2048x1_S2048x512x1024_12_0_n_n_0_1_15121024.siIdx (ix3 r k h) ⟨0, l⟩)).toInt.toNat 31 = e.val := fun l => by
      rw [i0, h0, word_toNat (by omega)]
      omega
    exact t _
  | ⟨1, _⟩ => show 0 + 0 + k.val = k.val; omega
  | ⟨2, _⟩ => show 0 + 0 + h.val = h.val; omega

theorem weight_apply (C : IVec S2048 32) (r : Fin 2048) (e : Fin 32) (hC : C (ix1 r) = BitVec.ofNat 32 e.val) :
    (weight X R C (ix2 r 0) : EReal) = prob (fun r k => X (ix2 r k)) (fun k e => R (ix2 k e)) r e := by
  have W : (weight X R C (ix2 r 0) : EReal) = Host.gather gather_S2048x32_S2048x2_S2048_n_01_n_n_01_1_11 (probs X R) (pairs C) (ix1 r) := by
    pointwise [weight]
  rw [W, gather_pair (probs X R) (pairs C) r r e (pairs_row C r) ((pairs_expert C r).trans hC), probs_apply]

theorem product_apply (C : IVec S2048 32) (r : Fin 2048) (e : Fin 32) (h : Fin 1024) (hC : C (ix1 r) = BitVec.ofNat 32 e.val) :
    (product X E C (ix2 r h) : EReal) = expert (fun r k => X (ix2 r k)) (fun e k h => E (ix3 e k h)) r e h := by
  have B : broadcastInDim S2048x1 ![0] bcast_S2048_S2048x1_0 C (ix2 r 0) = BitVec.ofNat 32 e.val := by
    pointwise
    exact hC
  have W : (product X E C (ix2 r h) : EReal) = ∑ k : Fin 512, X (ix2 r k)
      * Host.gather gather_S32x512x1024_S2048x1_S2048x512x1024_12_0_n_n_0_1_15121024 (extf .f32 E bitsLt_bf16_f32)
          (broadcastInDim S2048x1 ![0] bcast_S2048_S2048x1_0 C) (ix3 r k h) := by
    pointwise [product]
  rw [W]
  exact Finset.sum_congr rfl fun k _ => congrArg _ (gather_matrix _ _ r e k h B)

theorem mixed_apply (g0 g1 : FVec Ideal S2048x1 .f32) (y0 y1 : FVec Ideal S2048x1024 .f32) (r : Fin 2048) (h : Fin 1024) :
    (mixed g0 g1 y0 y1 (ix2 r h) : EReal)
      = Ideal.div (g0 (ix2 r 0)) (g0 (ix2 r 0) + g1 (ix2 r 0)) * y0 (ix2 r h) + Ideal.div (g1 (ix2 r 0)) (g0 (ix2 r 0) + g1 (ix2 r 0)) * y1 (ix2 r h) := by
  pointwise [mixed]

end Read

/-! ## The result -/

theorem result_apply (m : (ℓ : Loc nD τ sig) → Buf (Elt Ideal) ℓ) (c : Dev nD) (r : Fin 2048) (a b : Fin 32) (h : Fin 1024)
    (ha : m ((c.tc : Thread nD τ).loc main_arg2) (ix2 r 0) = BitVec.ofNat 32 a.val)
    (hb : m ((c.tc : Thread nD τ).loc main_arg2) (ix2 r 1) = BitVec.ofNat 32 b.val) :
    (res_main_v41 m c (ix2 r h) : EReal)
      = out (fun r k => m ((c.tc : Thread nD τ).loc main_arg0) (ix2 r k)) (fun k e => m ((c.tc : Thread nD τ).loc main_arg1) (ix2 k e))
          (fun e k h => m ((c.tc : Thread nD τ).loc main_arg3) (ix3 e k h)) r a b h := by
  rw [result_eq]
  refine (mixed_apply _ _ _ _ r h).trans ?_
  rw [weight_apply _ _ _ r a ((column0_apply _ r).trans ha), weight_apply _ _ _ r b ((column1_apply _ r).trans hb),
    product_apply _ _ _ r a h ((column0_apply _ r).trans ha), product_apply _ _ _ r b h ((column1_apply _ r).trans hb)]
  rfl

end Cert.ReferenceIdeal.MoE

end
-- ==== Proof.Routed.lean ====
/-
What the precondition `routed` says, element by element: every token's two experts are numbers below 32 and different,
every token's and every router weight's element is a real.
-/
module

public import proofs.«01_k».proof.Pre_routed_KernelIdeal
public import proofs.«01_k».proof.Pre_routed_ReferenceIdeal
public import proofs.«01_k».proof.Proof.Spec

@[expose] public section

noncomputable section

namespace Cert.Pre_routed_ReferenceIdeal

theorem facts : Facts where
  bcast_S_S2048x2 := by decide +kernel
  slices_S2048x2_S2048x1_0_0 := by decide +kernel
  shapeCasts_S2048x1_S2048 := by decide +kernel
  slices_S2048x2_S2048x1_0_1 := by decide +kernel
  bcast_S_S2048x512 := by decide +kernel
  bcast_S_S512x32 := by decide +kernel

end Cert.Pre_routed_ReferenceIdeal

namespace Cert.Pre_routed_KernelIdeal

open Idealize.ShloMosaic Cert.MoE

theorem facts : Facts where
  bcast_S_S2048x2 := by decide +kernel
  slices_S2048x2_S2048x1_0_0 := by decide +kernel
  shapeCasts_S2048x1_S2048 := by decide +kernel
  slices_S2048x2_S2048x1_0_1 := by decide +kernel
  bcast_S_S2048x512 := by decide +kernel
  bcast_S_S512x32 := by decide +kernel

/-! ## Truth values -/

theorem and_one : ∀ x y : BitVec 1, IntOp.andi x y = 1#1 → x = 1#1 ∧ y = 1#1 := by decide

theorem of_one {b : Bool} (h : BitVec.ofBool b = 1#1) : b = true := by
  revert h; cases b <;> decide

/-- A word from zero to 31, read signed, is a number below 32. -/
theorem small_word {w : BitVec 32} (h0 : IntOp.cmpi .sge w 0#32 = 1#1) (h1 : IntOp.cmpi .slt w 32#32 = 1#1) :
    ∃ a : Fin 32, w = BitVec.ofNat 32 a.val := by
  have l0 : (0#32).sle w = true := of_one h0
  have l1 : w.slt 32#32 = true := of_one h1
  have g0 : (0 : Int) ≤ w.toInt := by
    rw [BitVec.sle_iff_toInt_le] at l0
    simpa using l0
  have g1 : w.toInt < 32 := by
    rw [BitVec.slt_iff_toInt_lt] at l1
    simpa using l1
  have hw := w.isLt
  have hn : w.toNat < 32 := by
    rw [BitVec.toInt_eq_toNat_cond] at g0 g1
    split at g0 <;> omega
  exact ⟨⟨w.toNat, hn⟩, BitVec.eq_of_toNat_eq (by rw [BitVec.toNat_ofNat]; exact (Nat.mod_eq_of_lt hw).symm)⟩

theorem low16 : Ideal.ofBits .bf16 0xFF80#16 = ⊥ := by
  simp [Ideal.ofBits, Ideal.ieee]

theorem high16 : Ideal.ofBits .bf16 0x7F80#16 = ⊤ := by
  simp [Ideal.ofBits, Ideal.ieee]

/-- An element strictly between the infinities is a real. -/
theorem real_between {x : EReal} (h : IntOp.andi (BitVec.ofBool (decide (Ideal.ofBits .bf16 0xFF80#16 < x)))
    (BitVec.ofBool (decide (x < Ideal.ofBits .bf16 0x7F80#16))) = 1#1) : ∃ q : ℝ, x = (q : EReal) := by
  obtain ⟨h0, h1⟩ := and_one _ _ h
  have g0 := of_decide_eq_true (of_one h0)
  have g1 := of_decide_eq_true (of_one h1)
  rw [low16] at g0
  rw [high16] at g1
  exact real_of_ne g0.ne' g1.ne

/-! ## The precondition's four parts -/

section Parts
variable [Facts] (X : FVec Ideal S2048x512 .bf16) (R : FVec Ideal S512x32 .bf16) (I : IVec S2048x2 32) (W : FVec Ideal S8x512x1024 .bf16)

theorem small (h : (fn X R I W).1 = fun _ => 1#1) (r : Fin 2048) (k : Fin 2) : ∃ a : Fin 32, I (ix2 r k) = BitVec.ofNat 32 a.val := by
  have e := congrFun h (ix2 r k)
  unfold fn fn_part1 at e
  pointwise at e
  obtain ⟨h0, h1⟩ := and_one _ _ e
  exact small_word h0 h1

theorem differ (h : (fn X R I W).2.1 = fun _ => 1#1) (r : Fin 2048) : I (ix2 r 0) ≠ I (ix2 r 1) := by
  have e := congrFun h (ix1 r)
  unfold fn fn_part1 at e
  pointwise at e
  exact fun hx => by
    have hb : (I (ix2 r 0) != I (ix2 r 1)) = true := of_one e
    rw [hx] at hb
    simp at hb

theorem tokens_real (h : (fn X R I W).2.2.1 = fun _ => 1#1) (r : Fin 2048) (k : Fin 512) : ∃ q : ℝ, X (ix2 r k) = (q : EReal) := by
  have e := congrFun h (ix2 r k)
  unfold fn fn_part1 at e
  pointwise at e
  exact real_between e

theorem router_real (h : (fn X R I W).2.2.2 = fun _ => 1#1) (k : Fin 512) (e : Fin 32) : ∃ q : ℝ, R (ix2 k e) = (q : EReal) := by
  have t := congrFun h (ix2 k e)
  unfold fn fn_part1 at t
  pointwise at t
  exact real_between t

end Parts

end Cert.Pre_routed_KernelIdeal

end
-- ==== Proof.Equal.lean ====
/-
The two results are equal: under `routed`, with the kernel's operands the reference's — the expert matrices dealt out
over the devices, everything else on every device —, each device's result is its block of the reference's.
-/
module

public import proofs.«01_k».proof.Defs
public import proofs.«01_k».proof.Proof.Gates
public import proofs.«01_k».proof.Proof.RefValue
public import proofs.«01_k».proof.Proof.Routed
public import Idealize.ShloMosaic.Lib.Layout

@[expose] public section

noncomputable section

namespace Cert.MoE

open Idealize.ShloMosaic Idealize.ShloMosaic.TcCoe

/-- Where row `i` of a device's result block lies in the whole result, -/
theorem result_idx (h : Layout.Tiles ⟨2, ![512, 1024]⟩ ⟨2, ![2048, 1024]⟩ 0 4) (c : Fin 4) (i : Fin 512) (k : Fin 1024) :
    h.idx c (ix2 i k) = ix2 (Cert.KernelIdeal.MoE.row c i) k := by
  funext b
  apply Fin.ext
  match b with
  | ⟨0, _⟩ => show c.val * 512 + i.val = 512 * c.val + i.val; omega
  | ⟨1, _⟩ => rfl

/-- and a device's expert among all. -/
theorem expert_idx (h : Layout.Tiles ⟨3, ![8, 512, 1024]⟩ ⟨3, ![32, 512, 1024]⟩ 0 4) (c : Fin 4) (j : Fin 8) (k : Fin 512) (l : Fin 1024) :
    h.idx c (ix3 j k l) = ix3 (Cert.KernelIdeal.MoE.own c j) k l := by
  funext b
  apply Fin.ext
  match b with
  | ⟨0, _⟩ => show c.val * 8 + j.val = 8 * c.val + j.val; omega
  | ⟨1, _⟩ => rfl
  | ⟨2, _⟩ => rfl

section
variable [hPre_routed_KernelIdeal : Cert.Pre_routed_KernelIdeal.Facts]
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

theorem results_equal (hp : Cert.Pre_KernelIdeal_routed_KernelIdeal m)
    (hm : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![32, 512, 1024]⟩ 0 4 c (m' (((0 : Dev Cert.ReferenceIdeal.nD).tc : Thread Cert.ReferenceIdeal.nD Cert.ReferenceIdeal.τ).loc Cert.ReferenceIdeal.main_arg3)))
    (c : Dev Cert.KernelIdeal.nD) :
    Cert.KernelIdeal.MoE.outAt m c
      = Layout.block ⟨2, ![512, 1024]⟩ ⟨2, ![2048, 1024]⟩ 0 4 c (Cert.ReferenceIdeal.Value.res_main_v41 m' (0 : Dev Cert.ReferenceIdeal.nD)) := by
  obtain ⟨p0, p1, p2, p3⟩ := hp c
  -- the tokens' experts
  have hs := Cert.Pre_routed_KernelIdeal.small _ _ _ _ p0
  choose s es using hs
  have hd := Cert.Pre_routed_KernelIdeal.differ _ _ _ _ p1
  have fX := Cert.Pre_routed_KernelIdeal.tokens_real _ _ _ _ p2
  have fR := Cert.Pre_routed_KernelIdeal.router_real _ _ _ _ p3
  rw [(hm c).2.2.1] at es hd
  rw [(hm c).1] at fX
  rw [(hm c).2.1] at fR
  have hab : ∀ r, s r 0 ≠ s r 1 := fun r h => hd r (by rw [es r 0, es r 1, h])
  refine funext fun y => ?_
  obtain ⟨i, k, rfl⟩ : ∃ (i : Fin 512) (k : Fin 1024), y = ix2 i k := ⟨y 0, y 1, eq_ix2 y⟩
  rw [Layout.block_apply, result_idx]
  refine (Cert.KernelIdeal.MoE.outAt_eq m _ _ (fun e k h => m' (((0 : Dev Cert.ReferenceIdeal.nD).tc : Thread Cert.ReferenceIdeal.nD Cert.ReferenceIdeal.τ).loc Cert.ReferenceIdeal.main_arg3) (ix3 e k h))
    (fun r => s r 0) (fun r => s r 1) (fun d r k => congrFun (hm d).1 (ix2 r k)) (fun d k e => congrFun (hm d).2.1 (ix2 k e))
    (fun d r => (congrFun (hm d).2.2.1 (ix2 r 0)).trans (es r 0)) (fun d r => (congrFun (hm d).2.2.1 (ix2 r 1)).trans (es r 1))
    (fun d j k h => (congrFun (hm d).2.2.2 (ix3 j k h)).trans (by rw [Layout.block_apply, expert_idx])) fX fR hab c i k).trans ?_
  exact (Cert.ReferenceIdeal.MoE.result_apply m' 0 _ _ _ k (es _ 0) (es _ 1)).symm

end

end Cert.MoE

end
-- ==== Proof.lean ====
/- The claims of the expert-parallel kernel, closed: the frames of the kernel and of its ideal form by their runs
   (Proof/KLaunch.lean, Proof/Launch.lean), the reference's by its host operations' run; the algebraic claim by the two runs and the equation
   of their results (Proof/Equal.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.KLaunch
public import proofs.«01_k».proof.Proof.Launch
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

theorem frame_kernel : Cert.quiescent_Kernel := by
  intro m ρ _
  exact (θ_run Cert.Kernel.defs _ _).mono
    (fun _ h => ⟨fun c => ⟨(h.1 c (0 : Fin 5)).trans (Cert.Kernel.MoE.finalA_arg0 m ρ c), (h.1 c (1 : Fin 5)).trans (Cert.Kernel.MoE.finalA_arg1 m ρ c),
      (h.1 c (2 : Fin 5)).trans (Cert.Kernel.MoE.finalA_arg2 m ρ c), (h.1 c (3 : Fin 5)).trans (Cert.Kernel.MoE.finalA_arg3 m ρ c)⟩, h.2⟩)
    (Cert.Kernel.MoE.run_main (F := Bits) m ρ)

theorem run_ideal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
      r.2.mem ((c.tc : Thread Cert.KernelIdeal.nD Cert.KernelIdeal.τ).loc Cert.KernelIdeal.main_v1) = Cert.KernelIdeal.MoE.outAt m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono
    (fun _ h => ⟨fun c => ⟨(h.1 c (4 : Fin 5)).trans (Cert.KernelIdeal.MoE.finalA_result m ρ c),
      (h.1 c (0 : Fin 5)).trans (Cert.KernelIdeal.MoE.finalA_arg0 m ρ c), (h.1 c (1 : Fin 5)).trans (Cert.KernelIdeal.MoE.finalA_arg1 m ρ c),
      (h.1 c (2 : Fin 5)).trans (Cert.KernelIdeal.MoE.finalA_arg2 m ρ c), (h.1 c (3 : Fin 5)).trans (Cert.KernelIdeal.MoE.finalA_arg3 m ρ c)⟩, h.2⟩)
    (Cert.KernelIdeal.MoE.run_main (F := Ideal) m ρ)

theorem frame_ideal : Cert.quiescent_KernelIdeal := by
  intro m ρ _
  exact (θ_run Cert.KernelIdeal.defs _ _).mono (fun _ h => ⟨fun c => (h.1 c).2, h.2⟩) (run_ideal m ρ)

theorem frame_reference : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

theorem frame_ideal_routed [hPre : Cert.Pre_routed_KernelIdeal.Facts] : Cert.quiescent_KernelIdeal_pre_routed_KernelIdeal :=
  fun m ρ _ => frame_ideal m ρ trivial

theorem frame_reference_routed [hPre : Cert.Pre_routed_ReferenceIdeal.Facts] : Cert.quiescent_ReferenceIdeal_pre_routed_ReferenceIdeal :=
  fun m ρ _ => frame_reference m ρ trivial

theorem algebraic [hPre : Cert.Pre_routed_KernelIdeal.Facts] : Cert.algebraic_KernelIdeal_ReferenceIdeal_pre_routed_KernelIdeal := by
  intro m ρ m' ρ' hp hm
  refine ⟨Cert.ReferenceIdeal.Value.res_main_v41 m' (0 : Dev Cert.ReferenceIdeal.nD), ?_, ?_⟩
  · exact (θ_run Cert.KernelIdeal.defs _ _).mono
      (fun _ h c => ⟨(h.1 c).1.trans (Cert.MoE.results_equal m m' hp hm c), (h.1 c).2⟩) (run_ideal m ρ)
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts, Cert.Pre_routed_KernelIdeal.facts, Cert.Pre_routed_ReferenceIdeal.facts,
    frame_kernel, frame_ideal, frame_ideal_routed (hPre := Cert.Pre_routed_KernelIdeal.facts), frame_reference,
    frame_reference_routed (hPre := Cert.Pre_routed_ReferenceIdeal.facts), trivial, algebraic (hPre := Cert.Pre_routed_KernelIdeal.facts)⟩

end Cert.Proof

end
